-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "exp2_scale" .f32 0x3FE6D4CA#32 (((5 / 4) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x256000 : Shape := ⟨3, ![2, 128, 256000]⟩
abbrev S_ : Shape := ⟨0, ![]⟩

class Facts : Prop where
  bitsLt_bf16_f32 : FTy.bits .bf16 < FTy.bits .f32
  bcast_S_S2x128x256000 : S_.BroadcastsInDim S2x128x256000 (![] : Fin 0 → Fin S2x128x256000.rank)
  reducesTo_S2x128x256000_S_d0_1_2 : S2x128x256000.ReducesTo [0, 1, 2] S_
  h_S_ : 0 < S_.numel

variable [Facts]

def fn {F : FTy → Type} [FloatOps F] (main_arg0 : FVec F S2x128x256000 .bf16) : IVec S_ 1 :=
  let main_v0 : FVec F S2x128x256000 .f32 := (extf .f32 · bitsLt_bf16_f32) main_arg0
  let main_v1 : FVec F S2x128x256000 .f32 := Host.absf main_v0
  let main_cst : FVec F S_ .f32 := constant S_ .f32 0x7F7F0000#32
  let main_v2 : FVec F S2x128x256000 .f32 := broadcastInDim S2x128x256000 ![] bcast_S_S2x128x256000 main_cst
  let main_v3 : IVec S2x128x256000 1 := cmpf .ole main_v1 main_v2
  let main_c : IVec S_ 1 := constantI S_ 1 1#1
  let main_v4 : IVec S_ 1 := (fun x v => Host.reduce IntOp.andi x v reducesTo_S2x128x256000_S_d0_1_2 h_S_) main_v3 main_c
  main_v4
-- ==== Kernel.lean ====
abbrev S2x128x256000 : Shape := ⟨3, ![2, 128, 256000]⟩
abbrev S256x256000 : Shape := ⟨2, ![256, 256000]⟩
abbrev S2x128 : Shape := ⟨2, ![2, 128]⟩
abbrev S32x256000 : Shape := ⟨2, ![32, 256000]⟩
abbrev S32x128 : Shape := ⟨2, ![32, 128]⟩
abbrev S32 : Shape := ⟨1, ![32]⟩
abbrev S32x1 : Shape := ⟨2, ![32, 1]⟩
abbrev S128 : Shape := ⟨1, ![128]⟩
abbrev S1x128 : Shape := ⟨2, ![1, 128]⟩

abbrev nBuf : Space → Nat
  | .hbm => 5
  | .vmem => 6
  | .smem => 0
  | _ => 0

abbrev bufTy : (tb : Table) → Fin (tcTables nBuf tb) → BufTy
  | .hbm, ⟨0, _⟩ => ⟨S2x128x256000, .bf16⟩
  | .hbm, ⟨1, _⟩ => ⟨S256x256000, .bf16⟩
  | .hbm, ⟨2, _⟩ => ⟨S2x128, .f32⟩
  | .hbm, ⟨3, _⟩ => ⟨S256x256000, .fp8e4m3⟩
  | .hbm, ⟨4, _⟩ => ⟨S2x128, .f32⟩
  | .local _ .vmem, ⟨0, _⟩ => ⟨S32x256000, .bf16⟩
  | .local _ .vmem, ⟨1, _⟩ => ⟨S32x256000, .bf16⟩
  | .local _ .vmem, ⟨2, _⟩ => ⟨S2x128, .f32⟩
  | .local _ .vmem, ⟨3, _⟩ => ⟨S32x256000, .fp8e4m3⟩
  | .local _ .vmem, ⟨4, _⟩ => ⟨S32x256000, .fp8e4m3⟩
  | .local _ .vmem, ⟨5, _⟩ => ⟨S2x128, .f32⟩
  | _, _ => ⟨S2x128x256000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c200_i32 : BitVec 32 := 200#32
  let v2 : BitVec 32 := Scalar.addi c0_i32 c200_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32 : BitVec 32 := 1280#32
  let v153 : BitVec 32 := Scalar.muli arg5 c1280_i32
  let c0_i32_51 : BitVec 32 := 0#32
  let v154 : BitVec 32 := Scalar.addi v153 c0_i32_51
  v154
def k0_off1 (k0_t1 : Fin k0_t1_loop.trips) (c0_i32_51 : BitVec 32) : Fin 2 → Nat :=
  let c0_52 : Index := 0#32
  let c0_i32 : BitVec 32 := 0#32
  let c1_i32 : BitVec 32 := 1#32
  let arg5 : BitVec 32 := Scf.iv c0_i32 c1_i32 k0_t1
  let c1280_i32 : BitVec 32 := 1280#32
  let v153 : BitVec 32 := Scalar.muli arg5 c1280_i32
  let v154 : BitVec 32 := Scalar.addi v153 c0_i32_51
  let v155 : BitVec 32 := v154
  let v156 : Index := Scalar.indexCast v155
  ![0, v156.toNat]
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_53 : BitVec 32 := 1280#32
  let v161 : BitVec 32 := Scalar.muli arg5 c1280_i32_53
  let c128_i32_54 : BitVec 32 := 128#32
  let v162 : BitVec 32 := Scalar.addi v161 c128_i32_54
  v162
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_56 : BitVec 32 := 1280#32
  let v169 : BitVec 32 := Scalar.muli arg5 c1280_i32_56
  let c256_i32 : BitVec 32 := 256#32
  let v170 : BitVec 32 := Scalar.addi v169 c256_i32
  v170
def k0_mult4 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_58 : BitVec 32 := 1280#32
  let v177 : BitVec 32 := Scalar.muli arg5 c1280_i32_58
  let c384_i32 : BitVec 32 := 384#32
  let v178 : BitVec 32 := Scalar.addi v177 c384_i32
  v178
def k0_mult5 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_60 : BitVec 32 := 1280#32
  let v185 : BitVec 32 := Scalar.muli arg5 c1280_i32_60
  let c512_i32 : BitVec 32 := 512#32
  let v186 : BitVec 32 := Scalar.addi v185 c512_i32
  v186
def k0_mult6 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_62 : BitVec 32 := 1280#32
  let v193 : BitVec 32 := Scalar.muli arg5 c1280_i32_62
  let c640_i32 : BitVec 32 := 640#32
  let v194 : BitVec 32 := Scalar.addi v193 c640_i32
  v194
def k0_mult7 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_64 : BitVec 32 := 1280#32
  let v201 : BitVec 32 := Scalar.muli arg5 c1280_i32_64
  let c768_i32 : BitVec 32 := 768#32
  let v202 : BitVec 32 := Scalar.addi v201 c768_i32
  v202
def k0_mult8 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_66 : BitVec 32 := 1280#32
  let v209 : BitVec 32 := Scalar.muli arg5 c1280_i32_66
  let c896_i32 : BitVec 32 := 896#32
  let v210 : BitVec 32 := Scalar.addi v209 c896_i32
  v210
def k0_mult9 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_68 : BitVec 32 := 1280#32
  let v217 : BitVec 32 := Scalar.muli arg5 c1280_i32_68
  let c1024_i32 : BitVec 32 := 1024#32
  let v218 : BitVec 32 := Scalar.addi v217 c1024_i32
  v218
def k0_mult10 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32_70 : BitVec 32 := 1280#32
  let v225 : BitVec 32 := Scalar.muli arg5 c1280_i32_70
  let c1152_i32 : BitVec 32 := 1152#32
  let v226 : BitVec 32 := Scalar.addi v225 c1152_i32
  v226
@[reducible] def k0_t2_loop : Scf.Loop 32 :=
  let c0_i32_4 : BitVec 32 := 0#32
  let c200_i32_5 : BitVec 32 := 200#32
  let v13 : BitVec 32 := Scalar.addi c0_i32_4 c200_i32_5
  let c1_i32_6 : BitVec 32 := 1#32
  ⟨c0_i32_4, v13, c1_i32_6⟩
def k0_mult11 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32 : BitVec 32 := 1280#32
  let v153 : BitVec 32 := Scalar.muli arg5 c1280_i32
  let c0_i32_51 : BitVec 32 := 0#32
  let v154 : BitVec 32 := Scalar.addi v153 c0_i32_51
  v154
def k0_off2 (k0_t2 : Fin k0_t2_loop.trips) (c0_i32_51 : BitVec 32) : Fin 2 → Nat :=
  let c0_52 : Index := 0#32
  let c0_i32_4 : BitVec 32 := 0#32
  let c1_i32_6 : BitVec 32 := 1#32
  let arg5 : BitVec 32 := Scf.iv c0_i32_4 c1_i32_6 k0_t2
  let c1280_i32 : BitVec 32 := 1280#32
  let v153 : BitVec 32 := Scalar.muli arg5 c1280_i32
  let v154 : BitVec 32 := Scalar.addi v153 c0_i32_51
  let v155 : BitVec 32 := v154
  let v156 : Index := Scalar.indexCast v155
  ![0, v156.toNat]
def k0_mult12 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_54 : BitVec 32 := 1280#32
  let v165 : BitVec 32 := Scalar.muli arg5 c1280_i32_54
  let c128_i32_55 : BitVec 32 := 128#32
  let v166 : BitVec 32 := Scalar.addi v165 c128_i32_55
  v166
def k0_mult13 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_58 : BitVec 32 := 1280#32
  let v177 : BitVec 32 := Scalar.muli arg5 c1280_i32_58
  let c256_i32 : BitVec 32 := 256#32
  let v178 : BitVec 32 := Scalar.addi v177 c256_i32
  v178
def k0_mult14 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_61 : BitVec 32 := 1280#32
  let v189 : BitVec 32 := Scalar.muli arg5 c1280_i32_61
  let c384_i32 : BitVec 32 := 384#32
  let v190 : BitVec 32 := Scalar.addi v189 c384_i32
  v190
def k0_mult15 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_64 : BitVec 32 := 1280#32
  let v201 : BitVec 32 := Scalar.muli arg5 c1280_i32_64
  let c512_i32 : BitVec 32 := 512#32
  let v202 : BitVec 32 := Scalar.addi v201 c512_i32
  v202
def k0_mult16 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_67 : BitVec 32 := 1280#32
  let v213 : BitVec 32 := Scalar.muli arg5 c1280_i32_67
  let c640_i32 : BitVec 32 := 640#32
  let v214 : BitVec 32 := Scalar.addi v213 c640_i32
  v214
def k0_mult17 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_70 : BitVec 32 := 1280#32
  let v225 : BitVec 32 := Scalar.muli arg5 c1280_i32_70
  let c768_i32 : BitVec 32 := 768#32
  let v226 : BitVec 32 := Scalar.addi v225 c768_i32
  v226
def k0_mult18 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_73 : BitVec 32 := 1280#32
  let v237 : BitVec 32 := Scalar.muli arg5 c1280_i32_73
  let c896_i32 : BitVec 32 := 896#32
  let v238 : BitVec 32 := Scalar.addi v237 c896_i32
  v238
def k0_mult19 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_76 : BitVec 32 := 1280#32
  let v249 : BitVec 32 := Scalar.muli arg5 c1280_i32_76
  let c1024_i32 : BitVec 32 := 1024#32
  let v250 : BitVec 32 := Scalar.addi v249 c1024_i32
  v250
def k0_mult20 (k0_t2 : Fin k0_t2_loop.trips) : BitVec 32 :=
  let c0_i32_4 : BitVec 32 := 0#32
  let c1_i32_6 : BitVec 32 := 1#32
  let arg5 : BitVec 32 := Scf.iv c0_i32_4 c1_i32_6 k0_t2
  let c1280_i32_79 : BitVec 32 := 1280#32
  let v261 : BitVec 32 := Scalar.muli arg5 c1280_i32_79
  let c1152_i32 : BitVec 32 := 1152#32
  let v262 : BitVec 32 := Scalar.addi v261 c1152_i32
  v262
@[reducible] def k0_t3_loop : Scf.Loop 32 :=
  let c0_i32_26 : BitVec 32 := 0#32
  let c200_i32_27 : BitVec 32 := 200#32
  let v103 : BitVec 32 := Scalar.addi c0_i32_26 c200_i32_27
  let c1_i32_28 : BitVec 32 := 1#32
  ⟨c0_i32_26, v103, c1_i32_28⟩
def k0_mult21 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32 : BitVec 32 := 1280#32
  let v153 : BitVec 32 := Scalar.muli arg5 c1280_i32
  let c0_i32_51 : BitVec 32 := 0#32
  let v154 : BitVec 32 := Scalar.addi v153 c0_i32_51
  v154
def k0_off3 (k0_t3 : Fin k0_t3_loop.trips) (c0_i32_51 : BitVec 32) : Fin 2 → Nat :=
  let c0_52 : Index := 0#32
  let c0_i32_26 : BitVec 32 := 0#32
  let c1_i32_28 : BitVec 32 := 1#32
  let arg5 : BitVec 32 := Scf.iv c0_i32_26 c1_i32_28 k0_t3
  let c1280_i32 : BitVec 32 := 1280#32
  let v153 : BitVec 32 := Scalar.muli arg5 c1280_i32
  let v154 : BitVec 32 := Scalar.addi v153 c0_i32_51
  let v155 : BitVec 32 := v154
  let v156 : Index := Scalar.indexCast v155
  ![0, v156.toNat]
def k0_mult22 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_55 : BitVec 32 := 1280#32
  let v167 : BitVec 32 := Scalar.muli arg5 c1280_i32_55
  let c0_i32_56 : BitVec 32 := 0#32
  let v168 : BitVec 32 := Scalar.addi v167 c0_i32_56
  v168
def k0_mult23 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_58 : BitVec 32 := 1280#32
  let v172 : BitVec 32 := Scalar.muli arg5 c1280_i32_58
  let c128_i32_59 : BitVec 32 := 128#32
  let v173 : BitVec 32 := Scalar.addi v172 c128_i32_59
  v173
def k0_mult24 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_63 : BitVec 32 := 1280#32
  let v186 : BitVec 32 := Scalar.muli arg5 c1280_i32_63
  let c128_i32_64 : BitVec 32 := 128#32
  let v187 : BitVec 32 := Scalar.addi v186 c128_i32_64
  v187
def k0_mult25 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_66 : BitVec 32 := 1280#32
  let v191 : BitVec 32 := Scalar.muli arg5 c1280_i32_66
  let c256_i32 : BitVec 32 := 256#32
  let v192 : BitVec 32 := Scalar.addi v191 c256_i32
  v192
def k0_mult26 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_70 : BitVec 32 := 1280#32
  let v205 : BitVec 32 := Scalar.muli arg5 c1280_i32_70
  let c256_i32_71 : BitVec 32 := 256#32
  let v206 : BitVec 32 := Scalar.addi v205 c256_i32_71
  v206
def k0_mult27 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_73 : BitVec 32 := 1280#32
  let v210 : BitVec 32 := Scalar.muli arg5 c1280_i32_73
  let c384_i32 : BitVec 32 := 384#32
  let v211 : BitVec 32 := Scalar.addi v210 c384_i32
  v211
def k0_mult28 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_77 : BitVec 32 := 1280#32
  let v224 : BitVec 32 := Scalar.muli arg5 c1280_i32_77
  let c384_i32_78 : BitVec 32 := 384#32
  let v225 : BitVec 32 := Scalar.addi v224 c384_i32_78
  v225
def k0_mult29 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_80 : BitVec 32 := 1280#32
  let v229 : BitVec 32 := Scalar.muli arg5 c1280_i32_80
  let c512_i32 : BitVec 32 := 512#32
  let v230 : BitVec 32 := Scalar.addi v229 c512_i32
  v230
def k0_mult30 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_84 : BitVec 32 := 1280#32
  let v243 : BitVec 32 := Scalar.muli arg5 c1280_i32_84
  let c512_i32_85 : BitVec 32 := 512#32
  let v244 : BitVec 32 := Scalar.addi v243 c512_i32_85
  v244
def k0_mult31 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_87 : BitVec 32 := 1280#32
  let v248 : BitVec 32 := Scalar.muli arg5 c1280_i32_87
  let c640_i32 : BitVec 32 := 640#32
  let v249 : BitVec 32 := Scalar.addi v248 c640_i32
  v249
def k0_mult32 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_91 : BitVec 32 := 1280#32
  let v262 : BitVec 32 := Scalar.muli arg5 c1280_i32_91
  let c640_i32_92 : BitVec 32 := 640#32
  let v263 : BitVec 32 := Scalar.addi v262 c640_i32_92
  v263
def k0_mult33 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_94 : BitVec 32 := 1280#32
  let v267 : BitVec 32 := Scalar.muli arg5 c1280_i32_94
  let c768_i32 : BitVec 32 := 768#32
  let v268 : BitVec 32 := Scalar.addi v267 c768_i32
  v268
def k0_mult34 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_98 : BitVec 32 := 1280#32
  let v281 : BitVec 32 := Scalar.muli arg5 c1280_i32_98
  let c768_i32_99 : BitVec 32 := 768#32
  let v282 : BitVec 32 := Scalar.addi v281 c768_i32_99
  v282
def k0_mult35 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_101 : BitVec 32 := 1280#32
  let v286 : BitVec 32 := Scalar.muli arg5 c1280_i32_101
  let c896_i32 : BitVec 32 := 896#32
  let v287 : BitVec 32 := Scalar.addi v286 c896_i32
  v287
def k0_mult36 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_105 : BitVec 32 := 1280#32
  let v300 : BitVec 32 := Scalar.muli arg5 c1280_i32_105
  let c896_i32_106 : BitVec 32 := 896#32
  let v301 : BitVec 32 := Scalar.addi v300 c896_i32_106
  v301
def k0_mult37 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_108 : BitVec 32 := 1280#32
  let v305 : BitVec 32 := Scalar.muli arg5 c1280_i32_108
  let c1024_i32 : BitVec 32 := 1024#32
  let v306 : BitVec 32 := Scalar.addi v305 c1024_i32
  v306
def k0_mult38 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_112 : BitVec 32 := 1280#32
  let v319 : BitVec 32 := Scalar.muli arg5 c1280_i32_112
  let c1024_i32_113 : BitVec 32 := 1024#32
  let v320 : BitVec 32 := Scalar.addi v319 c1024_i32_113
  v320
def k0_mult39 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_115 : BitVec 32 := 1280#32
  let v324 : BitVec 32 := Scalar.muli arg5 c1280_i32_115
  let c1152_i32 : BitVec 32 := 1152#32
  let v325 : BitVec 32 := Scalar.addi v324 c1152_i32
  v325
def k0_mult40 (k0_t3 : Fin k0_t3_loop.trips) : BitVec 32 :=
  let c0_i32_26 : BitVec 32 := 0#32
  let c1_i32_28 : BitVec 32 := 1#32
  let arg5 : BitVec 32 := Scf.iv c0_i32_26 c1_i32_28 k0_t3
  let c1280_i32_119 : BitVec 32 := 1280#32
  let v338 : BitVec 32 := Scalar.muli arg5 c1280_i32_119
  let c1152_i32_120 : BitVec 32 := 1152#32
  let v339 : BitVec 32 := Scalar.addi v338 c1152_i32_120
  v339
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x256000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256000 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "exp2_scale" => some (((5 / 4) * (Real.log 2)⁻¹ : ℝ) : EReal)
  | _ => none
-- ==== ReferenceIdeal.lean ====
abbrev S2x128x256000 : Shape := ⟨3, ![2, 128, 256000]⟩
abbrev S2x128 : Shape := ⟨2, ![2, 128]⟩
abbrev S256x256000 : Shape := ⟨2, ![256, 256000]⟩
abbrev S2x128x1 : Shape := ⟨3, ![2, 128, 1]⟩

abbrev nBuf : Space → Nat
  | .hbm => 4
  | .vmem => 4
  | .smem => 0
  | _ => 0

abbrev bufTy : (tb : Table) → Fin (tcTables nBuf tb) → BufTy
  | .hbm, ⟨0, _⟩ => ⟨S2x128x256000, .bf16⟩
  | .hbm, ⟨1, _⟩ => ⟨S2x128, .f32⟩
  | .hbm, ⟨2, _⟩ => ⟨S256x256000, .fp8e4m3⟩
  | .hbm, ⟨3, _⟩ => ⟨S2x128, .f32⟩
  | .local _ .vmem, ⟨0, _⟩ => ⟨S2x128x256000, .bf16⟩
  | .local _ .vmem, ⟨1, _⟩ => ⟨S2x128, .f32⟩
  | .local _ .vmem, ⟨2, _⟩ => ⟨S256x256000, .fp8e4m3⟩
  | .local _ .vmem, ⟨3, _⟩ => ⟨S2x128, .f32⟩
  | _, _ => ⟨S2x128x256000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "log_two" => some ((Real.log 2 : ℝ) : EReal)
  | "temperature" => some ((4 / 5 : ℝ) : EReal)
  | _ => none

abbrev grid0 : Pipeline.Grid := .none

abbrev stage0_0 : Fin 1 → Memref sig .tc .vmem S2x128x256000 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256000 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Math.lean ====
/- The mathematics of one row, with no program in it: the values of the literals, the power of two behind an
   exponent field, the exponent found by comparisons with powers of two, and the bounds of a row's log-sum-exp. -/
module

public import Idealize.ShloMosaic.PureOps.Ideal.Laws
public import Mathlib.Analysis.SpecialFunctions.Pow.Real
public import Mathlib.Analysis.SpecialFunctions.Log.Basic

@[expose] public section

noncomputable section

namespace Cert.RowMath

open Idealize.ShloMosaic

/-! ## Literals -/

/-- The bit pattern of `1.25`. -/
theorem lit_five_quarters : Ideal.ofBits .f32 0x3FA00000#32 = ((5 / 4 : ℝ) : EReal) := by
  simp [Ideal.ofBits, Ideal.ieee, -EReal.coe_mul]; norm_num

/-- The bit pattern of `1.0`. -/
theorem lit_one : Ideal.ofBits .f32 0x3F800000#32 = ((1 : ℝ) : EReal) := by
  simp [Ideal.ofBits, Ideal.ieee, -EReal.coe_mul]; norm_num

/-- The number that the f32 literal `1/448` is. -/
def q : ℝ := 9586981 / 4294967296

/-- The bit pattern of the f32 nearest `1/448`. -/
theorem lit_q : Ideal.ofBits .f32 0x3B124925#32 = ((q : ℝ) : EReal) := by
  simp [Ideal.ofBits, Ideal.ieee, -EReal.coe_mul, q]; norm_num

/-- The bit pattern of zero. -/
theorem lit_zero : Ideal.ofBits .f32 0x00000000#32 = 0 := by
  simp [Ideal.ofBits, Ideal.ieee]

/-- The bit pattern of `-∞`. -/
theorem lit_bot : Ideal.ofBits .f32 0xFF800000#32 = ⊥ := by
  simp [Ideal.ofBits, Ideal.ieee]

/-- The bit pattern of `+∞`. -/
theorem lit_top : Ideal.ofBits .f32 0x7F800000#32 = ⊤ := by
  simp [Ideal.ofBits, Ideal.ieee]

/-- The largest finite bf16, as an f32 bit pattern, is below `2 ^ 128`. -/
theorem lit_big : ∃ B : ℝ, Ideal.ofBits .f32 0x7F7F0000#32 = (B : EReal) ∧ B < 2 ^ 128 := by
  refine ⟨255 * 2 ^ 120, ?_, by norm_num⟩
  simp [Ideal.ofBits, Ideal.ieee, -EReal.coe_mul]; norm_num

/-! ## Powers of two from exponent fields -/

/-- The f32 whose bits are `c` shifted into the exponent field. -/
def pow2 (c : BitVec 32) : EReal := Ideal.ofBits .f32 (IntOp.shli .vector c 23#32)

/-- The fields of a word whose exponent is `c`. -/
theorem fields (c : Fin 256) :
    (IntOp.shli .vector (BitVec.ofNat 32 c) 23#32).extractLsb' 31 1 = 0#1
    ∧ ((IntOp.shli .vector (BitVec.ofNat 32 c) 23#32).extractLsb' 23 8).toNat = c.val
    ∧ ((IntOp.shli .vector (BitVec.ofNat 32 c) 23#32).extractLsb' 0 23).toNat = 0 := by
  revert c; decide +kernel

/-- An exponent field `c` between 1 and 254 is the power `2 ^ (c - 127)`. -/
theorem pow2_eq (c : ℕ) (h1 : 1 ≤ c) (h2 : c ≤ 254) :
    pow2 (BitVec.ofNat 32 c) = (((2 : ℝ) ^ ((c : ℤ) - 127) : ℝ) : EReal) := by
  obtain ⟨f1, f2, f3⟩ := fields ⟨c, by omega⟩
  simp only at f1 f2 f3
  have hx : ¬ c = 255 := by omega
  have hy : ¬ c = 0 := by omega
  unfold pow2 Ideal.ofBits Ideal.ieee
  simp only [Nat.reduceAdd, f1, f2, f3]
  norm_num [hx, hy]
  rw [show ((c : ℤ) - 127) = 23 + ((c : ℤ) - 127 - 23) by ring, zpow_add₀ (by norm_num : (2 : ℝ) ≠ 0)]
  norm_num

/-- The exponent field 255 with no fraction is `+∞`. -/
theorem pow2_top : pow2 255#32 = ⊤ := by
  obtain ⟨f1, f2, f3⟩ := fields ⟨255, by omega⟩
  simp only at f1 f2 f3
  unfold pow2 Ideal.ofBits Ideal.ieee
  simp only [Nat.reduceAdd, f1, f2, f3]
  norm_num

/-! ## The exponent by comparisons -/

/-- One comparison: raise the candidate exponent by `b` when `y` reaches that power of two. -/
def step (y : EReal) (b e : BitVec 32) : BitVec 32 :=
  Idealize.ShloMosaic.Scalar.select (Ideal.cmp .oge y (pow2 (e + b))) (e + b) e

/-- The eight comparisons. -/
def search (y : EReal) : BitVec 32 :=
  step y 1#32 (step y 2#32 (step y 4#32 (step y 8#32 (step y 16#32 (step y 32#32 (step y 64#32 (step y 128#32 0#32)))))))

/-- When the exponent field `E` of `y` lies within `2 w` above the candidate, one comparison brings it within `w`. -/
theorem step_inv (y : ℝ) (E : ℕ) (hE : E ≤ 254) (hl : (2 : ℝ) ^ ((E : ℤ) - 127) ≤ y) (hu : y < (2 : ℝ) ^ ((E : ℤ) - 126))
    (w k : ℕ) (hw : 1 ≤ w) (hk : k + 2 * w ≤ 256) (h1 : k ≤ E) (h2 : E < k + 2 * w) :
    ∃ k', step y (BitVec.ofNat 32 w) (BitVec.ofNat 32 k) = BitVec.ofNat 32 k' ∧ k' + w ≤ 256 ∧ k' ≤ E ∧ E < k' + w := by
  have key : pow2 (BitVec.ofNat 32 (k + w)) ≤ (y : EReal) ↔ k + w ≤ E := by
    by_cases hc : k + w = 255
    · rw [hc, pow2_top, top_le_iff]
      constructor
      · intro h; exact absurd h (EReal.coe_ne_top y)
      · intro h; omega
    · rw [pow2_eq _ (by omega) (by omega), EReal.coe_le_coe_iff]
      constructor
      · intro h
        have := (zpow_lt_zpow_iff_right₀ (by norm_num : (1 : ℝ) < 2)).mp (lt_of_le_of_lt h hu)
        omega
      · intro h
        exact le_trans ((zpow_le_zpow_iff_right₀ (by norm_num : (1 : ℝ) < 2)).mpr (by omega)) hl
  have hadd : BitVec.ofNat 32 k + BitVec.ofNat 32 w = BitVec.ofNat 32 (k + w) := (BitVec.ofNat_add _ _).symm
  unfold step
  rw [hadd]
  by_cases hc : k + w ≤ E
  · refine ⟨k + w, ?_, by omega, hc, by omega⟩
    simp [Idealize.ShloMosaic.Scalar.select, Ideal.cmp, key, hc]
  · refine ⟨k, ?_, by omega, h1, by omega⟩
    simp [Idealize.ShloMosaic.Scalar.select, Ideal.cmp, key, hc]

/-- The eight comparisons find the exponent field. -/
theorem search_eq (y : ℝ) (E : ℕ) (hE : E ≤ 254) (hl : (2 : ℝ) ^ ((E : ℤ) - 127) ≤ y)
    (hu : y < (2 : ℝ) ^ ((E : ℤ) - 126)) : search y = BitVec.ofNat 32 E := by
  obtain ⟨k1, e1, a1, b1, c1⟩ := step_inv y E hE hl hu 128 0 (by omega) (by omega) (by omega) (by omega)
  obtain ⟨k2, e2, a2, b2, c2⟩ := step_inv y E hE hl hu 64 k1 (by omega) (by omega) (by omega) (by omega)
  obtain ⟨k3, e3, a3, b3, c3⟩ := step_inv y E hE hl hu 32 k2 (by omega) (by omega) (by omega) (by omega)
  obtain ⟨k4, e4, a4, b4, c4⟩ := step_inv y E hE hl hu 16 k3 (by omega) (by omega) (by omega) (by omega)
  obtain ⟨k5, e5, a5, b5, c5⟩ := step_inv y E hE hl hu 8 k4 (by omega) (by omega) (by omega) (by omega)
  obtain ⟨k6, e6, a6, b6, c6⟩ := step_inv y E hE hl hu 4 k5 (by omega) (by omega) (by omega) (by omega)
  obtain ⟨k7, e7, a7, b7, c7⟩ := step_inv y E hE hl hu 2 k6 (by omega) (by omega) (by omega) (by omega)
  obtain ⟨k8, e8, a8, b8, c8⟩ := step_inv y E hE hl hu 1 k7 (by omega) (by omega) (by omega) (by omega)
  unfold search
  rw [show (0#32 : BitVec 32) = BitVec.ofNat 32 0 from rfl, e1, e2, e3, e4, e5, e6, e7, e8, show k8 = E by omega]

/-! ## The exponent by logarithms -/

/-- The exponent of `y`: the integer `f` with `2 ^ f ≤ y < 2 ^ (f + 1)`. -/
def flog (y : ℝ) : ℤ := ⌊Real.log y / Real.log 2⌋

/-- `2 ^ floor(log2 y)` is at most `y`. -/
theorem flog_le (y : ℝ) (hy : 0 < y) : (2 : ℝ) ^ flog y ≤ y := by
  have h2 : 0 < Real.log 2 := Real.log_pos (by norm_num)
  have h := Int.floor_le (Real.log y / Real.log 2)
  rw [le_div_iff₀ h2] at h
  rw [← Real.log_le_log_iff (by positivity) hy, Real.log_zpow]
  exact h

/-- `2 ^ (floor(log2 y) + 1)` is above `y`. -/
theorem lt_flog (y : ℝ) (hy : 0 < y) : y < (2 : ℝ) ^ (flog y + 1) := by
  have h2 : 0 < Real.log 2 := Real.log_pos (by norm_num)
  have h := Int.lt_floor_add_one (Real.log y / Real.log 2)
  rw [div_lt_iff₀ h2] at h
  rw [← Real.log_lt_log_iff hy (by positivity), Real.log_zpow]
  push_cast
  exact h

/-- Between `2 ^ (-9)` and `2 ^ 122` the exponent lies between these. -/
theorem flog_bounds (y : ℝ) (h1 : (2 : ℝ) ^ (-10 : ℤ) ≤ y) (h2 : y < (2 : ℝ) ^ (124 : ℤ)) :
    -10 ≤ flog y ∧ flog y ≤ 123 := by
  have hy : 0 < y := lt_of_lt_of_le (by positivity) h1
  have a := (zpow_lt_zpow_iff_right₀ (by norm_num : (1 : ℝ) < 2)).mp (lt_of_le_of_lt h1 (lt_flog y hy))
  have b := (zpow_lt_zpow_iff_right₀ (by norm_num : (1 : ℝ) < 2)).mp (lt_of_le_of_lt (flog_le y hy) h2)
  omega

/-- The exponent words of the scale and of its inverse. -/
theorem exp_fields (E : Fin 256) (h1 : 1 ≤ E.val) (h2 : E.val ≤ 252) :
    BitVec.ofNat 32 E - 126#32 + 127#32 = BitVec.ofNat 32 (E.val + 1)
    ∧ 0#32 - (BitVec.ofNat 32 E - 126#32) + 127#32 = BitVec.ofNat 32 (253 - E.val) := by
  revert E; decide +kernel

/-- The scale the kernel builds from the found exponent is the power above `y`, and its inverse likewise. -/
theorem pow2_search (y : ℝ) (h1 : (2 : ℝ) ^ (-10 : ℤ) ≤ y) (h2 : y < (2 : ℝ) ^ (124 : ℤ)) :
    pow2 (search y - 126#32 + 127#32) = (((2 : ℝ) ^ (flog y + 1) : ℝ) : EReal)
    ∧ pow2 (0#32 - (search y - 126#32) + 127#32) = (((2 : ℝ) ^ (-(flog y + 1)) : ℝ) : EReal) := by
  obtain ⟨ha, hb⟩ := flog_bounds y h1 h2
  have hy : 0 < y := lt_of_lt_of_le (by positivity) h1
  obtain ⟨E, hE⟩ : ∃ E : ℕ, (E : ℤ) = flog y + 127 := ⟨(flog y + 127).toNat, by omega⟩
  have hs : search y = BitVec.ofNat 32 E := by
    refine search_eq y E (by omega) ?_ ?_
    · rw [hE, add_sub_cancel_right]; exact flog_le y hy
    · rw [hE, show flog y + 127 - 126 = flog y + 1 by ring]; exact lt_flog y hy
  obtain ⟨f1, f2⟩ := exp_fields ⟨E, by omega⟩ (by simp only; omega) (by simp only; omega)
  simp only at f1 f2
  rw [hs, f1, f2, pow2_eq _ (by omega) (by omega), pow2_eq _ (by omega) (by omega)]
  constructor
  · congr 2; push_cast; omega
  · congr 2; rw [Nat.cast_sub (by omega)]; push_cast; omega

/-! ## The bounds of a row -/

/-- The sum of the row's exponentials around its maximum `hi`. -/
def expSum {n : ℕ} (r : Fin n → ℝ) (hi : ℝ) : ℝ := ∑ k, Real.exp ((r k - hi) * (5 / 4))

/-- The distance from the least scaled entry to the log-sum-exp is at least one half and never huge. -/
theorem spread_bounds (r : Fin 256000 → ℝ) (hi lo : ℝ) (hhi : ∀ k, r k ≤ hi) (hlo : ∀ k, lo ≤ r k)
    (h1 : hi < 2 ^ 128) (h2 : -2 ^ 128 < lo) :
    0 < expSum r hi
    ∧ 1 / 2 ≤ hi * (5 / 4) + Real.log (expSum r hi) - lo * (5 / 4)
    ∧ hi * (5 / 4) + Real.log (expSum r hi) - lo * (5 / 4) < 2 ^ 130 := by
  have hS : 256000 * Real.exp ((lo - hi) * (5 / 4)) ≤ expSum r hi := by
    have : ∑ _k : Fin 256000, Real.exp ((lo - hi) * (5 / 4)) ≤ expSum r hi :=
      Finset.sum_le_sum fun k _ => Real.exp_le_exp.mpr (by have := hlo k; linarith)
    simpa using this
  have hS' : expSum r hi ≤ 256000 := by
    have : expSum r hi ≤ ∑ _k : Fin 256000, (1 : ℝ) :=
      Finset.sum_le_sum fun k _ => by
        rw [← Real.exp_zero]; exact Real.exp_le_exp.mpr (by have := hhi k; linarith)
    simpa using this
  have hpos : 0 < expSum r hi := lt_of_lt_of_le (by positivity) hS
  have hl : Real.log 256000 + (lo - hi) * (5 / 4) ≤ Real.log (expSum r hi) := by
    have := Real.log_le_log (by positivity) hS
    rwa [Real.log_mul (by norm_num) (Real.exp_ne_zero _), Real.log_exp] at this
  have hu : Real.log (expSum r hi) ≤ Real.log 256000 := Real.log_le_log hpos hS'
  have hb : Real.log 256000 ≤ 256000 - 1 := Real.log_le_sub_one_of_pos (by norm_num)
  have hc : 1 - (256000 : ℝ)⁻¹ ≤ Real.log 256000 := Real.one_sub_inv_le_log_of_pos (by norm_num)
  refine ⟨hpos, ?_, ?_⟩
  · norm_num at hc; linarith
  · norm_num at h1 h2 ⊢; linarith

/-- The spread over 448 lies between `2 ^ -10` and `2 ^ 124`. -/
theorem q_spread (a : ℝ) (h1 : 1 / 2 ≤ a) (h2 : a < 2 ^ 130) :
    (2 : ℝ) ^ (-10 : ℤ) ≤ a * q ∧ a * q < (2 : ℝ) ^ (124 : ℤ) := by
  unfold q
  constructor
  · norm_num; linarith
  · norm_num at h2 ⊢; linarith

end Cert.RowMath

end
-- ==== Proof.Blocks.lean ====
module

public import proofs.«01_k».proof.Proof.Gen.KernelIdeal.Loops
public import Idealize.ShloMosaic.Lib.Pipeline.Value
public import Idealize.ShloMosaic.Lib.Pipeline.ValueKit
public import Idealize.ShloMosaic.Lib.ValueIdx
public import Idealize.ShloMosaic.Lib.WordArith.Masks
public import Idealize.ShloMosaic.Lib.Tactic
public import proofs.«01_k».proof.Proof.Math

@[expose] public section

set_option maxRecDepth 16384
noncomputable section
open Idealize.ShloMosaic Idealize.ShloMosaic.TcCoe Idealize.SL.Sem Idealize.ShloMosaic.ValueIdx

namespace Cert.KernelIdeal.Blocks

open Cert.KernelIdeal Cert.KernelIdeal.Gen

variable (𝒱 : Variants) (c : Dev nD) (bd : Option 𝒱.V) (i : grid0.Coords)
  (arg1 : Memref sig .tc .vmem S32x256000 .bf16) (h1 : arg1.IsWhole)
  (arg2 : Memref sig .tc .vmem S2x128 .f32) (h2 : arg2.IsWhole)
  (arg3 : Memref sig .tc .vmem S32x256000 .fp8e4m3) (h3 : arg3.IsWhole)
  (arg4 : Memref sig .tc .vmem S2x128 .f32) (h4 : arg4.IsWhole)
  (x : Vec Ideal S32x256000 .bf16)

/-- Entry `col` of row `r` of a block, counted in the naturals (zero outside the block). -/
def row (x : Vec Ideal S32x256000 .bf16) (r : Fin 32) (col : ℕ) : EReal :=
  if h : col < 256000 then x (ValueIdx.ix2 r ⟨col, h⟩) else 0

/-- The 128 columns of a block from column `o` on. -/
def tile (x : Vec Ideal S32x256000 .bf16) (o : ℕ) : Vec Ideal S32x128 .bf16 :=
  fun j => row x (j 0) (o + (j 1).val)

/-- A load through the 128 columns at offset `off` is that tile. -/
theorem ld_tile (o : ℕ) (off : Fin 2 → ℕ) (hoff : off = ![0, o])
    (inb : ∀ a, off a + S32x128.size a ≤ S32x256000.size a) :
    View.ld (Val := Elt Ideal) (e' := .bf16) x (Rect.unit off S32x128.size inb) = tile x o := by
  subst hoff
  funext j
  have h : o + 128 ≤ 256000 := inb 1
  have h' : o + (j 1).val < 256000 := by have : (j 1).val < 128 := (j 1).isLt; omega
  show _ = row x (j 0) _
  unfold row
  rw [dif_pos h']
  exact View.ld_unit_apply_of _ _ _ _ _ _ (fun a => by
    match a with
    | ⟨0, _⟩ => exact (Nat.zero_add _).symm
    | ⟨1, _⟩ => rfl)

/-- A statement about the numbers below ten, one by one. -/
theorem ten {P : ℕ → Prop} : (∀ n < 10, P n) ↔ P 0 ∧ P 1 ∧ P 2 ∧ P 3 ∧ P 4 ∧ P 5 ∧ P 6 ∧ P 7 ∧ P 8 ∧ P 9 := by
  constructor
  · intro h
    exact ⟨h 0 (by omega), h 1 (by omega), h 2 (by omega), h 3 (by omega), h 4 (by omega), h 5 (by omega), h 6 (by omega),
      h 7 (by omega), h 8 (by omega), h 9 (by omega)⟩
  · rintro ⟨h0, h1, h2, h3, h4, h5, h6, h7, h8, h9⟩ n hn
    interval_cases n <;> assumption

/-- What one trip of the first loop loads: tile `n` of the trip. -/
abbrev L1 (k : Fin k0_t1_loop.trips) (n : Fin 10) : Vec Ideal S32x128 .bf16 :=
  View.ld (Val := Elt Ideal) (e' := .bf16) x
    (Rect.unit (k0_off1 k (BitVec.ofNat 32 (128 * n.val))) S32x128.size (k0_off1_inb k n))

/-- The tile a trip of the first loop loads. -/
theorem L1_eq (k : Fin k0_t1_loop.trips) (n : Fin 10) : L1 x k n = tile x (1280 * k.val + 128 * n.val) :=
  ld_tile x _ _ (k0_off1_eq k n) _

/-- One trip of the first loop, over the tiles it loads. -/
theorem trip1 (k : Fin k0_t1_loop.trips) (acc : FVec Ideal S32x128 .bf16 × FVec Ideal S32x128 .bf16) :
    tripR_k0_t1 𝒱 c bd i arg1 h1 arg2 h2 arg3 h3 arg4 h4 (h1.unread x) k acc
      = (k0_pay30 (k0_pay8 acc.1 (L1 x k 0) (L1 x k 1) (L1 x k 2) (L1 x k 3) (L1 x k 4))
          (L1 x k 5) (L1 x k 6) (L1 x k 7) (L1 x k 8) (L1 x k 9),
        k0_pay31 (k0_pay9 acc.2 (L1 x k 0) (L1 x k 1) (L1 x k 2) (L1 x k 3) (L1 x k 4))
          (L1 x k 5) (L1 x k 6) (L1 x k 7) (L1 x k 8) (L1 x k 9)) := by
  unfold tripR_k0_t1 trip_k0_t1
  dsimp only
  sl_unfold_words
  simp only [View.readAt_eq_ld, h1.read_unread]
  rfl

/-- One trip of the first loop takes ten tiles into the running maximum. -/
theorem trip1_max (k : Fin k0_t1_loop.trips) (acc : FVec Ideal S32x128 .bf16 × FVec Ideal S32x128 .bf16) (j : S32x128.Idx) (b : EReal) :
    (tripR_k0_t1 𝒱 c bd i arg1 h1 arg2 h2 arg3 h3 arg4 h4 (h1.unread x) k acc).1 j ≤ b
      ↔ acc.1 j ≤ b ∧ ∀ n < 10, tile x (1280 * k.val + 128 * n) j ≤ b := by
  rw [trip1]
  simp only [L1_eq]
  unfold k0_pay30 k0_pay25 k0_pay26 k0_pay27 k0_pay28 k0_pay29 k0_pay8 k0_pay3 k0_pay4 k0_pay5 k0_pay6 k0_pay7
  simp only [maximumf_apply, shapeCast_self, max_le_iff, and_assoc, ten]
  rfl

/-- One trip of the first loop takes ten tiles into the running minimum. -/
theorem trip1_min (k : Fin k0_t1_loop.trips) (acc : FVec Ideal S32x128 .bf16 × FVec Ideal S32x128 .bf16) (j : S32x128.Idx) (b : EReal) :
    b ≤ (tripR_k0_t1 𝒱 c bd i arg1 h1 arg2 h2 arg3 h3 arg4 h4 (h1.unread x) k acc).2 j
      ↔ b ≤ acc.2 j ∧ ∀ n < 10, b ≤ tile x (1280 * k.val + 128 * n) j := by
  rw [trip1]
  simp only [L1_eq]
  unfold k0_pay31 k0_pay25 k0_pay26 k0_pay27 k0_pay28 k0_pay29 k0_pay9 k0_pay3 k0_pay4 k0_pay5 k0_pay6 k0_pay7
  simp only [minimumf_apply, shapeCast_self, le_min_iff, and_assoc, ten]
  rfl

/-- The tiles of the trips before `k + 1` are those before `k` and the ten of trip `k`. -/
theorem tiles_succ {P : ℕ → Prop} (k : ℕ) :
    (∀ t < 10 * (k + 1), P (128 * t)) ↔ (∀ t < 10 * k, P (128 * t)) ∧ ∀ n < 10, P (1280 * k + 128 * n) := by
  constructor
  · intro h
    refine ⟨fun t ht => h t (by omega), fun n hn => ?_⟩
    have := h (10 * k + n) (by omega)
    rwa [show 128 * (10 * k + n) = 1280 * k + 128 * n by ring] at this
  · rintro ⟨h, h'⟩ t ht
    by_cases hc : t < 10 * k
    · exact h t hc
    · have := h' (t - 10 * k) (by omega)
      rwa [show 1280 * k + 128 * (t - 10 * k) = 128 * t by omega] at this

/-- The running maximum after `k` trips of the first loop. -/
theorem st1_max (init : FVec Ideal S32x128 .bf16 × FVec Ideal S32x128 .bf16) (j : S32x128.Idx) (b : EReal) :
    ∀ k, k ≤ k0_t1_loop.trips →
    ((st_k0_t1 𝒱 c bd i arg1 h1 arg2 h2 arg3 h3 arg4 h4 (h1.unread x) init k).1 j ≤ b
      ↔ init.1 j ≤ b ∧ ∀ t < 10 * k, tile x (128 * t) j ≤ b)
  | 0, _ => by simp [st_k0_t1_zero]
  | k + 1, hk => by
    rw [st_k0_t1_succ 𝒱 c bd i arg1 h1 arg2 h2 arg3 h3 arg4 h4 (h1.unread x) init ⟨k, hk⟩, trip1_max,
      st1_max init j b k (Nat.le_of_succ_le hk), tiles_succ (P := fun o => tile x o j ≤ b), and_assoc]

/-- The running minimum after `k` trips of the first loop. -/
theorem st1_min (init : FVec Ideal S32x128 .bf16 × FVec Ideal S32x128 .bf16) (j : S32x128.Idx) (b : EReal) :
    ∀ k, k ≤ k0_t1_loop.trips →
    (b ≤ (st_k0_t1 𝒱 c bd i arg1 h1 arg2 h2 arg3 h3 arg4 h4 (h1.unread x) init k).2 j
      ↔ b ≤ init.2 j ∧ ∀ t < 10 * k, b ≤ tile x (128 * t) j)
  | 0, _ => by simp [st_k0_t1_zero]
  | k + 1, hk => by
    rw [st_k0_t1_succ 𝒱 c bd i arg1 h1 arg2 h2 arg3 h3 arg4 h4 (h1.unread x) init ⟨k, hk⟩, trip1_min,
      st1_min init j b k (Nat.le_of_succ_le hk), tiles_succ (P := fun o => b ≤ tile x o j), and_assoc]

/-! ## The second loop -/

/-- What one trip of the second loop loads: tile `n` of the trip. -/
abbrev L2 (k : Fin k0_t2_loop.trips) (n : Fin 10) : Vec Ideal S32x128 .bf16 :=
  View.ld (Val := Elt Ideal) (e' := .bf16) x
    (Rect.unit (k0_off2 k (BitVec.ofNat 32 (128 * n.val))) S32x128.size (k0_off2_inb k n))

/-- The tile a trip of the second loop loads. -/
theorem L2_eq (k : Fin k0_t2_loop.trips) (n : Fin 10) : L2 x k n = tile x (1280 * k.val + 128 * n.val) :=
  ld_tile x _ _ (k0_off2_eq k n) _

/-- One trip of the second loop, over the tiles it loads. -/
theorem trip2 (v : FVec Ideal S32x128 .bf16) (k : Fin k0_t2_loop.trips) (acc : FVec Ideal S32x128 .f32) :
    tripR_k0_t2 𝒱 c bd i arg1 h1 arg2 h2 arg3 h3 arg4 h4 v (h1.unread x) k acc
      = k0_pay35 v (k0_pay12 (k0_pay33 v) (k0_pay10 (k0_pay33 v) acc (L2 x k 0) (L2 x k 1) (L2 x k 2))
          (k0_pay11 (k0_pay33 v) (L2 x k 3)) (L2 x k 4) (L2 x k 5) (L2 x k 6)) (L2 x k 7) (L2 x k 8) (L2 x k 9) := by
  unfold tripR_k0_t2 trip_k0_t2
  dsimp only
  sl_unfold_words
  simp only [View.readAt_eq_ld, h1.read_unread]
  rfl

/-- The exponential the second loop adds for one entry. -/
def term (v : FVec Ideal S32x128 .bf16) (j : S32x128.Idx) (w : EReal) : EReal :=
  Ideal.exp2 ((w - k0_pay33 (F := Ideal) v j) * Named.named (F := Ideal) (φ := .f32) κ "exp2_scale" 0x3FE6D4CA#32)

/-- One trip of the second loop adds ten tiles' exponentials to the running sum. -/
theorem trip2_sum (v : FVec Ideal S32x128 .bf16) (k : Fin k0_t2_loop.trips) (acc : FVec Ideal S32x128 .f32) (j : S32x128.Idx) :
    tripR_k0_t2 𝒱 c bd i arg1 h1 arg2 h2 arg3 h3 arg4 h4 v (h1.unread x) k acc j
      = acc j + ∑ n ∈ Finset.range 10, term v j (tile x (1280 * k.val + 128 * n) j) := by
  rw [trip2]
  simp only [L2_eq, Finset.sum_range_succ, Finset.sum_range_zero, zero_add, ← add_assoc]
  unfold k0_pay35 k0_pay12 k0_pay11 k0_pay10 term
  simp only [shapeCast_self]
  rfl

/-- The running sum after `k` trips of the second loop. -/
theorem st2_sum (v : FVec Ideal S32x128 .bf16) (init : FVec Ideal S32x128 .f32) (j : S32x128.Idx) :
    ∀ k, k ≤ k0_t2_loop.trips →
    st_k0_t2 𝒱 c bd i arg1 h1 arg2 h2 arg3 h3 arg4 h4 v (h1.unread x) init k j
      = init j + ∑ t ∈ Finset.range (10 * k), term v j (tile x (128 * t) j)
  | 0, _ => by simp [st_k0_t2_zero]
  | k + 1, hk => by
    rw [st_k0_t2_succ 𝒱 c bd i arg1 h1 arg2 h2 arg3 h3 arg4 h4 v (h1.unread x) init ⟨k, hk⟩, trip2_sum,
      st2_sum v init j k (Nat.le_of_succ_le hk), show 10 * (k + 1) = 10 * k + 10 by ring, Finset.sum_range_add, add_assoc]
    congr 2
    refine Finset.sum_congr rfl fun n _ => ?_
    rw [show 128 * (10 * k + n) = 1280 * k + 128 * n by ring]

/-! ## The third loop -/

/-- One entry's code before the division of the block into tiles: scaled, shifted, clipped. -/
def code (a b w : EReal) : EReal :=
  min (Ideal.ofBits .f32 0x43E00000#32) (max (Ideal.ofBits .f32 0xC3E00000#32) (w * a - b))

/-- The codes of the 128 columns at offset `off` are the codes of the block there. -/
theorem piece_code {A B : S32x128.Idx → EReal} {G : S32x256000.Idx → EReal}
    (hG : ∀ (r : Fin 32) (l : Fin 128) (cl : Fin 256000), G (ValueIdx.ix2 r cl)
      = code (A (ValueIdx.ix2 r l)) (B (ValueIdx.ix2 r l)) (x (ValueIdx.ix2 r cl)))
    (o : ℕ) (off : Fin 2 → ℕ) (hoff : off = ![0, o])
    (inb : ∀ a, off a + S32x128.size a ≤ S32x256000.size a) (y : S32x128.Idx) :
    code (A y) (B y) (View.ld (Val := Elt Ideal) (e' := .bf16) x (Rect.unit off S32x128.size inb) y)
      = G ((Rect.unit (s := S32x256000) off S32x128.size inb).emb y) := by
  subst hoff
  have h0 : (Rect.unit (s := S32x256000) ![0, o] S32x128.size inb).idx y
      = ValueIdx.ix2 (y 0) ((Rect.unit (s := S32x256000) ![0, o] S32x128.size inb).idx y 1) := by
    funext a
    match a with
    | ⟨0, _⟩ => exact Fin.ext (by show 0 + 1 * (y 0).val = (y 0).val; omega)
    | ⟨1, _⟩ => rfl
  have h2 := hG (y 0) (y 1) ((Rect.unit (s := S32x256000) ![0, o] S32x128.size inb).idx y 1)
  exact (congrArg (fun w => code (A y) (B y) (x w)) h0).trans ((congrArg (fun z => code (A z) (B z) (x _)) (ValueIdx.eq_ix2 y)).trans
    (h2.symm.trans (congrArg G h0.symm)))

/-- The piece tile `n` of trip `k` of the third loop writes. -/
abbrev L3 (A B : FVec Ideal S32x128 .f32) (k : Fin k0_t3_loop.trips) (n : Fin 10) : View.Piece (Elt Ideal) S32x256000 .fp8e4m3 :=
  ⟨Rect.unit (k0_off3 k (BitVec.ofNat 32 (128 * n.val))) S32x128.size (k0_off3_inb k n),
    fun y => code (A y) (B y) (View.ld (Val := Elt Ideal) (e' := .bf16) x
      (Rect.unit (k0_off3 k (BitVec.ofNat 32 (128 * n.val))) S32x128.size (k0_off3_inb k n)) y)⟩

/-- One trip of the third loop, over the pieces it writes, the last first. -/
theorem trip3 (arg0 : BitVec 32) (v20 : FVec Ideal S32x1 .f32) (v25 : IVec S32x1 1) (v77 v79 : IVec S32x1 32) (v83 : IVec S32x1 1)
    (k : Fin k0_t3_loop.trips) :
    tripL_k0_t3 𝒱 c bd i arg1 h1 arg2 h2 arg3 h3 arg4 h4 arg0 v20 v25 v77 v79 v83 (h1.unread x) k
      = [9, 8, 7, 6, 5, 4, 3, 2, 1, 0].map (L3 x (k0_pay48 v25 v77 v79 v83) (k0_pay49 v20 v25 v77 v79 v83) k) := by
  unfold tripL_k0_t3 trip_k0_t3 k0_pay51 k0_pay50
  dsimp only
  sl_unfold_words
  simp only [View.readAt_eq_ld, h1.read_unread, shapeCast_self]
  rfl

/-- Every piece the third loop has written before trip `k` holds the codes of its rectangle. -/
theorem pb3 (arg0 : BitVec 32) (v20 : FVec Ideal S32x1 .f32) (v25 : IVec S32x1 1) (v77 v79 : IVec S32x1 32) (v83 : IVec S32x1 1)
    {G : S32x256000.Idx → EReal}
    (hG : ∀ (r : Fin 32) (l : Fin 128) (cl : Fin 256000), G (ValueIdx.ix2 r cl)
      = code (k0_pay48 (F := Ideal) v25 v77 v79 v83 (ValueIdx.ix2 r l)) (k0_pay49 (F := Ideal) v20 v25 v77 v79 v83 (ValueIdx.ix2 r l)) (x (ValueIdx.ix2 r cl))) :
    ∀ k, k ≤ k0_t3_loop.trips →
      ∀ p ∈ pb_k0_t3 𝒱 c bd i arg1 h1 arg2 h2 arg3 h3 arg4 h4 arg0 v20 v25 v77 v79 v83 (h1.unread x) k,
      ∀ y : p.1.shape.Idx, p.2 y = G (p.1.emb y)
  | 0, _, p, hp, _ => absurd hp List.not_mem_nil
  | k + 1, hk, p, hp, y => by
    rw [pb_k0_t3_succ 𝒱 c bd i arg1 h1 arg2 h2 arg3 h3 arg4 h4 arg0 v20 v25 v77 v79 v83 (h1.unread x) ⟨k, hk⟩, trip3] at hp
    rcases List.mem_append.1 hp with hp | hp
    · obtain ⟨n, -, rfl⟩ := List.mem_map.1 hp
      exact piece_code x hG _ _ (k0_off3_eq _ n) (k0_off3_inb _ n) y
    · exact pb3 arg0 v20 v25 v77 v79 v83 hG k (Nat.le_of_succ_le hk) p hp y

/-! ## The values after the loops -/

/-- The loops make 200 trips. -/
theorem trips1 : Scf.trips (0#32) (Scalar.addi 0#32 200#32) 1#32 = 200 := by decide

/-- The largest entry of each lane of a block: what the first loop's running maximum ends at. -/
def hiV : FVec Ideal S32x128 .bf16 := fun j => (Finset.range 2000).sup fun t => tile x (128 * t) j

/-- The smallest entry of each lane of a block: what the first loop's running minimum ends at. -/
def loV : FVec Ideal S32x128 .bf16 := fun j => (Finset.range 2000).inf fun t => tile x (128 * t) j

/-- The sum of the exponentials of each lane of a block: what the second loop's running sum ends at. -/
def accV : FVec Ideal S32x128 .f32 := fun j => ∑ t ∈ Finset.range 2000, term (hiV x) j (tile x (128 * t) j)

/-- The first loop starts from the block's first tile. -/
theorem ini_eq (inb : ∀ a, (![0, 0] : Fin 2 → ℕ) a + S32x128.size a ≤ S32x256000.size a) :
    k0_pay24 (F := Ideal) (View.ld (Val := Elt Ideal) (e' := .bf16) x (Rect.unit ![0, 0] S32x128.size inb)) = tile x 0 :=
  (shapeCast_self _ _).trans (ld_tile x 0 _ rfl inb)

/-- The first loop ends at the largest entry of each lane. -/
theorem st1_hi : (st_k0_t1 𝒱 c bd i arg1 h1 arg2 h2 arg3 h3 arg4 h4 (h1.unread x) (tile x 0, tile x 0) 200).1 = hiV x := by
  funext j
  refine eq_of_forall_ge_iff fun b => ?_
  rw [st1_max 𝒱 c bd i arg1 h1 arg2 h2 arg3 h3 arg4 h4 x (tile x 0, tile x 0) j b 200 trips1.ge]
  unfold hiV
  simp only [Finset.sup_le_iff, Finset.mem_range]
  exact ⟨fun h => h.2, fun h => ⟨h 0 (by omega), h⟩⟩

/-- The first loop ends at the smallest entry of each lane. -/
theorem st1_lo : (st_k0_t1 𝒱 c bd i arg1 h1 arg2 h2 arg3 h3 arg4 h4 (h1.unread x) (tile x 0, tile x 0) 200).2 = loV x := by
  funext j
  refine eq_of_forall_le_iff fun b => ?_
  rw [st1_min 𝒱 c bd i arg1 h1 arg2 h2 arg3 h3 arg4 h4 x (tile x 0, tile x 0) j b 200 trips1.ge]
  unfold loV
  simp only [Finset.le_inf_iff, Finset.mem_range]
  exact ⟨fun h => h.2, fun h => ⟨h 0 (by omega), h⟩⟩

/-- The second loop ends at the sum of the exponentials of each lane. -/
theorem st2_acc : st_k0_t2 𝒱 c bd i arg1 h1 arg2 h2 arg3 h3 arg4 h4 (hiV x) (h1.unread x) (k0_pay34 (F := Ideal)) 200 = accV x := by
  funext j
  rw [st2_sum 𝒱 c bd i arg1 h1 arg2 h2 arg3 h3 arg4 h4 x (hiV x) _ j 200 trips1.ge]
  have h0 : k0_pay34 (F := Ideal) j = 0 := RowMath.lit_zero
  rw [h0, zero_add]
  rfl

end Cert.KernelIdeal.Blocks
-- ==== Proof.Outs.lean ====
module

public import proofs.«01_k».proof.Proof.Blocks
public import proofs.«01_k».proof.Proof.Gen.KernelIdeal.Value

@[expose] public section

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (c : Dev nD) (i : grid0.Coords)
  (arg1 : Memref sig .tc .vmem S32x256000 .bf16) (h1 : arg1.IsWhole) (arg2 : Memref sig .tc .vmem S2x128 .f32) (h2 : arg2.IsWhole)
  (arg3 : Memref sig .tc .vmem S32x256000 .fp8e4m3) (h3 : arg3.IsWhole) (arg4 : Memref sig .tc .vmem S2x128 .f32) (h4 : arg4.IsWhole)
  (x : Vec Ideal S32x256000 .bf16) (xo1 xo3 : Vec Ideal S2x128 .f32)

/-- The offset zero. -/
theorem hz : (![0, 0] : Fin 2 → Nat) = fun _ => 0 := funext fun a => by fin_cases a <;> rfl

/-- Whether the spread of a row is positive. -/
def posV : IVec S32x1 1 := k0_pay39 (F := Ideal) (hiV x) (loV x) (accV x)

/-- The exponent search of a row but its last step. -/
def seekV : IVec S32x1 32 := k0_pay43 (F := Ideal) (k0_pay40 (hiV x) (loV x) (accV x)) (k0_pay41 (hiV x) (loV x) (accV x)) k0_pay42

/-- The exponent the last step of the search tries. -/
def nextV : IVec S32x1 32 := k0_pay44 (F := Ideal) (k0_pay40 (hiV x) (loV x) (accV x)) (k0_pay41 (hiV x) (loV x) (accV x)) k0_pay42

/-- Whether the last step of the search is taken. -/
def takeV : IVec S32x1 1 := k0_pay45 (F := Ideal) (k0_pay40 (hiV x) (loV x) (accV x)) (k0_pay41 (hiV x) (loV x) (accV x)) k0_pay42

/-- The inverse scale of each row of a block. -/
def invV : FVec Ideal S32x1 .f32 := k0_pay47 (F := Ideal) (posV x) (seekV x) (nextV x) (takeV x)

/-- The bits of the scale of each row of a block. -/
def bitsV : IVec S32x1 32 := k0_pay56 (posV x) (seekV x) (nextV x) (takeV x)

/-- The log-sum-exp of each row of a block, the shift of its maximum put back. -/
def lseV : FVec Ideal S32x1 .f32 := k0_pay37 (F := Ideal) (hiV x) (accV x)

/-- The first grid step writes its log-sums into a cleared array. -/
theorem out_A_1 (hc : cond0_0 i) : out0_A_1 c i arg1 h1 arg2 h2 arg3 h3 arg4 h4 hc x
    = k0_pay1 (F := Ideal) (k0_pay36 (accV x)) (k0_pay54 (BitVec.ofNat 32 (i 0).val)) (k0_pay55 (BitVec.ofNat 32 (i 0).val)) (k0_pay52 (F := Ideal)) := by
  unfold out0_A_1
  rw [View.read_writes_eq_canon _ _ _ (cover0_A_1 c i arg1 h1 arg2 h2 arg3 h3 arg4 h4 hc x)]
  unfold kernelRun0_A
  dsimp only
  sl_unfold_words
  rw [View.canon_cons_unit_zero (S := S2x128) hz, View.readCov_unit_zero (S := S2x128) _ hz]
  simp only [View.readAt_eq_ld, h1.read_unread]
  erw [ini_eq, trips1, st1_hi, st2_acc]

/-- The first grid step writes its scales into a cleared array. -/
theorem out_A_3 (hc : cond0_0 i) : out0_A_3 c i arg1 h1 arg2 h2 arg3 h3 arg4 h4 hc x
    = k0_pay2 (F := Ideal) (k0_pay54 (BitVec.ofNat 32 (i 0).val)) (k0_pay55 (BitVec.ofNat 32 (i 0).val)) (bitsV x) (k0_pay53 (F := Ideal)) := by
  unfold out0_A_3
  rw [View.read_writes_eq_canon _ _ _ (cover0_A_3 c i arg1 h1 arg2 h2 arg3 h3 arg4 h4 hc x)]
  unfold kernelRun0_A
  dsimp only
  sl_unfold_words
  rw [View.canon_cons_unit_zero (S := S2x128) hz, View.readCov_unit_zero (S := S2x128) _ hz]
  simp only [View.readAt_eq_ld, h1.read_unread]
  erw [ini_eq, trips1, st1_hi, st1_lo, st2_acc]
  rfl

/-- A later grid step adds its log-sums to the array. -/
theorem out_B_1 (hc : ¬ cond0_0 i) : out0_B_1 c i arg1 h1 arg2 h2 arg3 h3 arg4 h4 hc x xo1 xo3
    = k0_pay1 (F := Ideal) (k0_pay36 (accV x)) (k0_pay54 (BitVec.ofNat 32 (i 0).val)) (k0_pay55 (BitVec.ofNat 32 (i 0).val)) xo1 := by
  unfold out0_B_1
  rw [View.read_writes_eq_canon _ _ _ (cover0_B_1 c i arg1 h1 arg2 h2 arg3 h3 arg4 h4 hc x xo1 xo3)]
  unfold kernelRun0_B
  dsimp only
  sl_unfold_words
  rw [View.canon_cons_unit_zero (S := S2x128) hz]
  simp only [View.readAt_eq_ld, h1.read_unread, h2.read_unread, View.ld_unit_zero (S := S2x128) hz]
  erw [ini_eq, trips1, st1_hi, st2_acc]

/-- A later grid step adds its scales to the array. -/
theorem out_B_3 (hc : ¬ cond0_0 i) : out0_B_3 c i arg1 h1 arg2 h2 arg3 h3 arg4 h4 hc x xo1 xo3
    = k0_pay2 (F := Ideal) (k0_pay54 (BitVec.ofNat 32 (i 0).val)) (k0_pay55 (BitVec.ofNat 32 (i 0).val)) (bitsV x) xo3 := by
  unfold out0_B_3
  rw [View.read_writes_eq_canon _ _ _ (cover0_B_3 c i arg1 h1 arg2 h2 arg3 h3 arg4 h4 hc x xo1 xo3)]
  unfold kernelRun0_B
  dsimp only
  sl_unfold_words
  rw [View.canon_cons_unit_zero (S := S2x128) hz]
  simp only [View.readAt_eq_ld, h1.read_unread, h4.read_unread, View.ld_unit_zero (S := S2x128) hz]
  erw [ini_eq, trips1, st1_hi, st1_lo, st2_acc]
  rfl

/-- The codes of a block. -/
def codesV (y : S32x256000.Idx) : EReal :=
  code (invV x (ValueIdx.ix2 (y 0) 0) * ((5 / 4 : ℝ) : EReal)) (lseV x (ValueIdx.ix2 (y 0) 0) * invV x (ValueIdx.ix2 (y 0) 0)) (x y)

/-- The codes of a block, by the factors spread over the lanes. -/
theorem codesV_eq (r : Fin 32) (l : Fin 128) (cl : Fin 256000) : codesV x (ValueIdx.ix2 r cl)
      = code (k0_pay48 (F := Ideal) (posV x) (seekV x) (nextV x) (takeV x) (ValueIdx.ix2 r l))
        (k0_pay49 (F := Ideal) (lseV x) (posV x) (seekV x) (nextV x) (takeV x) (ValueIdx.ix2 r l)) (x (ValueIdx.ix2 r cl)) := by
  have ha : k0_pay48 (F := Ideal) (posV x) (seekV x) (nextV x) (takeV x) (ValueIdx.ix2 r l)
      = invV x (ValueIdx.ix2 r 0) * ((5 / 4 : ℝ) : EReal) := by
    rw [← RowMath.lit_five_quarters]
    unfold k0_pay48
    simp only [shapeCast_self]
    rfl
  have hb : k0_pay49 (F := Ideal) (lseV x) (posV x) (seekV x) (nextV x) (takeV x) (ValueIdx.ix2 r l)
      = lseV x (ValueIdx.ix2 r 0) * invV x (ValueIdx.ix2 r 0) := by
    unfold k0_pay49
    simp only [shapeCast_self]
    rfl
  rw [ha, hb]
  rfl

/-- The first grid step writes its block's codes. -/
theorem out_A_2 (hc : cond0_0 i) : out0_A_2 c i arg1 h1 arg2 h2 arg3 h3 arg4 h4 hc x = codesV x := by
  have hp := pb3 Variants.none c none i arg1 h1 arg2 h2 arg3 h3 arg4 h4 x (BitVec.ofNat 32 (i 0).val) (lseV x) (posV x) (seekV x) (nextV x) (takeV x)
    (codesV_eq x) 200 trips1.ge
  funext y
  have hcov := cover0_A_2 c i arg1 h1 arg2 h2 arg3 h3 arg4 h4 hc x
  unfold out0_A_2
  rw [View.read_writes_eq_canon _ _ _ hcov]
  refine View.canon_apply_of_pieces (codesV x) _ ?_ y (hcov y)
  revert hp
  unfold kernelRun0_A
  dsimp only
  sl_unfold_words
  simp only [View.readAt_eq_ld, h1.read_unread]
  erw [ini_eq, trips1, st1_hi, st1_lo, st2_acc]
  exact fun hp => hp

/-- A later grid step writes its block's codes. -/
theorem out_B_2 (hc : ¬ cond0_0 i) : out0_B_2 c i arg1 h1 arg2 h2 arg3 h3 arg4 h4 hc x xo1 xo3 = codesV x := by
  have hp := pb3 Variants.none c none i arg1 h1 arg2 h2 arg3 h3 arg4 h4 x (BitVec.ofNat 32 (i 0).val) (lseV x) (posV x) (seekV x) (nextV x) (takeV x)
    (codesV_eq x) 200 trips1.ge
  funext y
  have hcov := cover0_B_2 c i arg1 h1 arg2 h2 arg3 h3 arg4 h4 hc x xo1 xo3
  unfold out0_B_2
  rw [View.read_writes_eq_canon _ _ _ hcov]
  refine View.canon_apply_of_pieces (codesV x) _ ?_ y (hcov y)
  revert hp
  unfold kernelRun0_B
  dsimp only
  sl_unfold_words
  simp only [View.readAt_eq_ld, h1.read_unread]
  erw [ini_eq, trips1, st1_hi, st1_lo, st2_acc]
  exact fun hp => hp

end Cert.KernelIdeal.Blocks
-- ==== Proof.Line.lean ====
module

public import proofs.«01_k».proof.Proof.Outs

@[expose] public section

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

/-- Row `r` of block `t` is column `(32 t + r) % 128` of its line of the 2×128 array. -/
theorem lane_word : ∀ (t : Fin 8) (r : Fin 32),
    (BitVec.ofNat 32 r.val + BitVec.ofNat 32 t.val * 32#32) &&& 127#32 = BitVec.ofNat 32 ((32 * t.val + r.val) % 128) := by decide +kernel

/-- Block `t` lies in line `t / 4` of the 2×128 array. -/
theorem line_word : ∀ (t : Fin 8) (b : Fin 2),
    IntOp.cmpi .eq (BitVec.ofNat 32 b.val) (Scalar.shrsi (Scalar.muli (BitVec.ofNat 32 t.val) 32#32) 7#32)
      = BitVec.ofBool (decide (b.val = t.val / 4)) := by decide +kernel

/-- A selection by a decided bit. -/
theorem select_ofBool (p : Prop) [Decidable p] (a b : EReal) : Scalar.select (BitVec.ofBool (decide p)) a b = if p then a else b := by
  unfold Scalar.select
  by_cases h : p <;> simp [h]

/-- Equality of two small words is equality of the numbers. -/
theorem cmpi_eq (a b : ℕ) (ha : a < 128) (hb : b < 128) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  constructor
  · intro h
    have := congrArg BitVec.toNat h
    simp only [BitVec.toNat_ofNat] at this
    omega
  · exact fun h => h ▸ rfl

/-- The lane mask of block `t`. -/
theorem pay54_apply (t : Fin 8) (r : Fin 32) (l : Fin 128) :
    k0_pay54 (BitVec.ofNat 32 t.val) (ValueIdx.ix2 r l) = BitVec.ofBool (decide ((32 * t.val + r.val) % 128 = l.val)) := by
  rw [← cmpi_eq _ _ (by omega) l.isLt, ← lane_word t r]
  show IntOp.cmpi .eq ((iota .tc S32x128 32 [0] iota_S32x128_d0_w32 (ValueIdx.ix2 r l) + BitVec.ofNat 32 t.val * 32#32) &&& 127#32)
    (iota .tc S32x128 32 [1] iota_S32x128_d1_w32 (ValueIdx.ix2 r l)) = _
  rw [iota_single_apply, iota_single_apply]

/-- The line mask of block `t`. -/
theorem pay55_apply (t : Fin 8) (b : Fin 2) (l : Fin 128) :
    k0_pay55 (BitVec.ofNat 32 t.val) (ValueIdx.ix2 b l) = BitVec.ofBool (decide (b.val = t.val / 4)) := by
  rw [← line_word t b]
  show IntOp.cmpi .eq (iota .tc S2x128 32 [0] iota_S2x128_d0_w32 (ValueIdx.ix2 b l)) _ = _
  rw [iota_single_apply]
  rfl

/-- What block `t` adds to one entry of a 2×128 array: its row's value at the entry of that row, zero elsewhere. -/
theorem spread_sum (t : Fin 8) (b : Fin 2) (l : Fin 128) (v : Fin 32 → EReal) :
    (if b.val = t.val / 4 then ∑ r : Fin 32, (if (32 * t.val + r.val) % 128 = l.val then v r else 0) else 0)
      = if (128 * b.val + l.val) / 32 = t.val then v ⟨l.val % 32, Nat.mod_lt _ (by omega)⟩ else 0 := by
  have hb := b.isLt
  have hl := l.isLt
  have ht := t.isLt
  by_cases h1 : b.val = t.val / 4
  · rw [if_pos h1]
    by_cases h2 : (128 * b.val + l.val) / 32 = t.val
    · rw [if_pos h2, Finset.sum_eq_single ⟨l.val % 32, Nat.mod_lt _ (by omega)⟩]
      · rw [if_pos (by show (32 * t.val + l.val % 32) % 128 = l.val; omega)]
      · intro r _ hr
        rw [if_neg]
        intro h
        exact hr (Fin.ext (by show r.val = l.val % 32; have := r.isLt; omega))
      · exact fun h => absurd (Finset.mem_univ _) h
    · rw [if_neg h2]
      refine Finset.sum_eq_zero fun r _ => if_neg fun h => ?_
      have := r.isLt
      omega
  · rw [if_neg h1, if_neg]
    omega

/-- The sum over the 32 rows of a block, lane by lane. -/
theorem col_sum (src : FVec Ideal S32x128 .f32) (l : Fin 128) :
    multiReduction (F := Ideal) .add [0] S128 src 0x00000000#32 reduces_S32x128_S128 (.inl rfl) rfl (ValueIdx.ix1 l)
      = ∑ r : Fin 32, src (ValueIdx.ix2 r l) :=
  (Ideal.multiReduction_add_single src _ _ _ _ _).trans (Finset.sum_congr rfl fun r _ => congrArg src (by
    funext a
    match a with
    | ⟨0, _⟩ => rfl
    | ⟨1, _⟩ => rfl))

/-- A line of 128 entries, spread over the 2×128 array. -/
theorem line_spread (v : FVec Ideal S128 .f32) (b : Fin 2) (l : Fin 128) :
    broadcastTo S2x128 (shapeCast S1x128 v shapeCasts_S128_S1x128) broadcasts_S1x128_S2x128 (ValueIdx.ix2 b l) = v (ValueIdx.ix1 l) := by
  refine (broadcastTo_apply _ _ _ (ValueIdx.ix2 (0 : Fin 1) l) fun a => ?_).trans (shapeCast_apply v _ _ (ValueIdx.ix1 l) ?_)
  · match a with
    | ⟨0, _⟩ => rfl
    | ⟨1, _⟩ => rfl
  · rw [Shape.rowMajor_val_two, Shape.rowMajor_val_one]
    simp

/-- A column of 32 entries, spread over 128 lanes. -/
theorem col_spread (v : S32x1.Idx → EReal) (r : Fin 32) (l : Fin 128) :
    broadcastTo S32x128 v broadcasts_S32x1_S32x128 (ValueIdx.ix2 r l) = v (ValueIdx.ix2 r 0) :=
  broadcastTo_apply _ _ _ _ fun a => by
    match a with
    | ⟨0, _⟩ => rfl
    | ⟨1, _⟩ => rfl

/-- Block `t` adds to an array its rows' values, each at the entry of its row. -/
theorem pay1_apply (v : FVec Ideal S32x1 .f32) (p : Vec Ideal S2x128 .f32) (t : Fin 8) (b : Fin 2) (l : Fin 128) :
    k0_pay1 (F := Ideal) v (k0_pay54 (BitVec.ofNat 32 t.val)) (k0_pay55 (BitVec.ofNat 32 t.val)) p (ValueIdx.ix2 b l)
      = p (ValueIdx.ix2 b l) + if (128 * b.val + l.val) / 32 = t.val then v (ValueIdx.ix2 ⟨l.val % 32, Nat.mod_lt _ (by omega)⟩ 0) else 0 := by
  rw [← spread_sum t b l fun r => v (ValueIdx.ix2 r 0)]
  unfold k0_pay1
  simp only [shapeCast_self]
  show p (ValueIdx.ix2 b l) + Scalar.select (k0_pay55 (BitVec.ofNat 32 t.val) (ValueIdx.ix2 b l)) _ (Ideal.ofBits .f32 0x00000000#32) = _
  rw [pay55_apply, RowMath.lit_zero, select_ofBool]
  congr 2
  refine (line_spread _ b l).trans ((col_sum _ l).trans (Finset.sum_congr rfl fun r _ => ?_))
  show Scalar.select (k0_pay54 (BitVec.ofNat 32 t.val) (ValueIdx.ix2 r l)) (broadcastTo S32x128 v broadcasts_S32x1_S32x128 (ValueIdx.ix2 r l))
    (Ideal.ofBits .f32 0x00000000#32) = _
  rw [col_spread, pay54_apply, RowMath.lit_zero, select_ofBool]

/-- Block `t` adds to the scale array the scales of its rows. -/
theorem pay2_apply (v : IVec S32x1 32) (p : Vec Ideal S2x128 .f32) (t : Fin 8) :
    k0_pay2 (F := Ideal) (k0_pay54 (BitVec.ofNat 32 t.val)) (k0_pay55 (BitVec.ofNat 32 t.val)) v p
      = k0_pay1 (F := Ideal) (fun j => Ideal.ofBits .f32 (v j)) (k0_pay54 (BitVec.ofNat 32 t.val)) (k0_pay55 (BitVec.ofNat 32 t.val)) p := rfl

end Cert.KernelIdeal.Blocks
-- ==== Proof.Grid.lean ====
module

public import proofs.«01_k».proof.Proof.Line

@[expose] public section

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

/-- The grid has eight points. -/
theorem N_eq : cfg0.N = 8 := N_0

/-- A point's coordinate is its number. -/
theorem coord : ∀ t : Fin cfg0.N, (grid0.coords t 0).val = t.val :=
  (by decide +kernel : ∀ t : Fin grid0.N, (grid0.coords t 0).val = t.val)

/-- A 2×128 array that starts at zero and to which each block adds its rows' values holds, after block `n`, the values of the
    rows of the blocks up to `n`. -/
theorem acc_eq (f : Fin cfg0.N → FVec Ideal S32x1 .f32) (o : (n : ℕ) → n < cfg0.N → Vec Ideal S2x128 .f32)
    (h0 : ∀ h, o 0 h = k0_pay1 (F := Ideal) (f ⟨0, h⟩) (k0_pay54 (BitVec.ofNat 32 0)) (k0_pay55 (BitVec.ofNat 32 0)) (k0_pay52 (F := Ideal)))
    (hs : ∀ n h, o (n + 1) h = k0_pay1 (F := Ideal) (f ⟨n + 1, h⟩) (k0_pay54 (BitVec.ofNat 32 (n + 1))) (k0_pay55 (BitVec.ofNat 32 (n + 1)))
      (o n (Nat.lt_of_succ_lt h))) (b : Fin 2) (l : Fin 128) :
    ∀ n h, o n h (ValueIdx.ix2 b l) = if hq : (128 * b.val + l.val) / 32 ≤ n then
      f ⟨(128 * b.val + l.val) / 32, Nat.lt_of_le_of_lt hq h⟩ (ValueIdx.ix2 ⟨l.val % 32, Nat.mod_lt _ (by omega)⟩ 0) else 0
  | 0, h => by
    have hp := pay1_apply (f ⟨0, h⟩) (k0_pay52 (F := Ideal)) 0 b l
    rw [h0]
    refine hp.trans ?_
    have hz : k0_pay52 (F := Ideal) (ValueIdx.ix2 b l) = 0 := RowMath.lit_zero
    rw [hz, zero_add]
    by_cases hq : (128 * b.val + l.val) / 32 ≤ 0
    · have hq' : (128 * b.val + l.val) / 32 = 0 := by omega
      rw [dif_pos hq, if_pos (by rw [hq']; rfl)]
      exact congrArg (fun t => f t (ValueIdx.ix2 ⟨l.val % 32, Nat.mod_lt _ (by omega)⟩ 0)) (Fin.ext hq'.symm : (⟨0, h⟩ : Fin cfg0.N) = ⟨_, _⟩)
    · rw [dif_neg hq, if_neg (fun he => hq (by rw [he]; exact le_refl 0))]
  | n + 1, h => by
    have hn : n + 1 < 8 := N_eq ▸ h
    have hp := pay1_apply (f ⟨n + 1, h⟩) (o n (Nat.lt_of_succ_lt h)) ⟨n + 1, hn⟩ b l
    rw [hs]
    refine hp.trans ?_
    rw [acc_eq f o h0 hs b l n]
    show _ + (if (128 * b.val + l.val) / 32 = n + 1 then _ else 0) = _
    by_cases hq : (128 * b.val + l.val) / 32 ≤ n
    · rw [dif_pos hq, dif_pos (Nat.le_succ_of_le hq), if_neg (by omega), add_zero]
    · rw [dif_neg hq, zero_add]
      by_cases he : (128 * b.val + l.val) / 32 = n + 1
      · rw [if_pos he, dif_pos he.le]
        exact congrArg (fun t => f t (ValueIdx.ix2 ⟨l.val % 32, Nat.mod_lt _ (by omega)⟩ 0)) (Fin.ext he.symm : (⟨n + 1, h⟩ : Fin cfg0.N) = ⟨_, _⟩)
      · rw [if_neg he, dif_neg (by omega)]

variable (m : (ℓ : Loc nD τ sig) → Buf (Elt Ideal) ℓ) (c : Dev nD)

/-- Block `t` of the 256×256000 operand. -/
abbrev blk (t : Fin cfg0.N) : Vec Ideal S32x256000 .bf16 := iblk m c 0 t

/-- The first array after point `n`: the log-sums of the rows of the blocks so far, zero elsewhere. -/
theorem lse_acc (b : Fin 2) (l : Fin 128) (n : ℕ) (h : n < cfg0.N) :
    (outsAt0 m c n h).1 (ValueIdx.ix2 b l) = if hq : (128 * b.val + l.val) / 32 ≤ n then
      k0_pay36 (F := Ideal) (accV (blk m c ⟨(128 * b.val + l.val) / 32, Nat.lt_of_le_of_lt hq h⟩)) (ValueIdx.ix2 ⟨l.val % 32, Nat.mod_lt _ (by omega)⟩ 0) else 0 := by
  refine acc_eq (fun t => k0_pay36 (F := Ideal) (accV (blk m c t))) (fun n h => (outsAt0 m c n h).1) (fun h => ?_) (fun n h => ?_) b l n h
  · show (outsAt0 m c (⟨0, h⟩ : Fin cfg0.N).val h).1 = _
    rw [outsAt0_A m c ⟨0, h⟩ rfl]
    dsimp only
    rw [out_A_1, coord]
  · have hB : ¬ (⟨n + 1, h⟩ : Fin cfg0.N).val % 8 = 0 := by have : n + 1 < 8 := N_eq ▸ h; show ¬ (n + 1) % 8 = 0; omega
    show (outsAt0 m c (⟨n + 1, h⟩ : Fin cfg0.N).val h).1 = _
    rw [outsAt0_B m c ⟨n + 1, h⟩ hB]
    dsimp only
    rw [out_B_1, coord]
    rfl

/-- The third array after point `n`: the scales of the rows of the blocks so far, zero elsewhere. -/
theorem scale_acc (b : Fin 2) (l : Fin 128) (n : ℕ) (h : n < cfg0.N) :
    (outsAt0 m c n h).2.2 (ValueIdx.ix2 b l) = if hq : (128 * b.val + l.val) / 32 ≤ n then
      Ideal.ofBits .f32 (bitsV (blk m c ⟨(128 * b.val + l.val) / 32, Nat.lt_of_le_of_lt hq h⟩) (ValueIdx.ix2 ⟨l.val % 32, Nat.mod_lt _ (by omega)⟩ 0)) else 0 := by
  refine acc_eq (fun t j => Ideal.ofBits .f32 (bitsV (blk m c t) j)) (fun n h => (outsAt0 m c n h).2.2) (fun h => ?_) (fun n h => ?_) b l n h
  · show (outsAt0 m c (⟨0, h⟩ : Fin cfg0.N).val h).2.2 = _
    rw [outsAt0_A m c ⟨0, h⟩ rfl]
    dsimp only
    rw [out_A_3, coord]
    exact pay2_apply _ _ 0
  · have hn : n + 1 < 8 := N_eq ▸ h
    have hB : ¬ (⟨n + 1, h⟩ : Fin cfg0.N).val % 8 = 0 := by show ¬ (n + 1) % 8 = 0; omega
    show (outsAt0 m c (⟨n + 1, h⟩ : Fin cfg0.N).val h).2.2 = _
    rw [outsAt0_B m c ⟨n + 1, h⟩ hB]
    dsimp only
    rw [out_B_3, coord]
    exact pay2_apply _ _ ⟨n + 1, hn⟩

/-- What a point writes of the codes: those of its block. -/
theorem codes_at (t : Fin cfg0.N) : (outsAt0 m c t.val t.isLt).2.1 = codesV (blk m c t) := by
  by_cases h0 : t.val % 8 = 0
  · rw [outsAt0_A m c t h0]
    exact out_A_2 ..
  · rw [outsAt0_B m c t h0]
    exact out_B_2 ..

end Cert.KernelIdeal.Blocks
-- ==== Proof.Arrays.lean ====
module

public import proofs.«01_k».proof.Proof.Grid

@[expose] public section

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ) (c : Dev nD)

/-- The last grid point. -/
abbrev last : Fin cfg0.N := ⟨7, by rw [N_eq]; omega⟩

/-- The window of the first array stays at its start. -/
theorem idx1_zero : (fun a => win0_1.index last a * main_v1_0.ty.shape.size a) = fun _ => 0 := funext fun a => by fin_cases a <;> decide +kernel

/-- The window of the third array stays at its start. -/
theorem idx3_zero : (fun a => win0_3.index last a * main_v1_2.ty.shape.size a) = fun _ => 0 := funext fun a => by fin_cases a <;> decide +kernel

/-- The log-sum-exp array ends at what the last point leaves. -/
theorem final1 : (dats m 0 c).arrAt 1 cfg0.N = (outsAt0 m c last.val last.isLt).1 :=
  (dats m 0 c).arrAt_eq_of_cover 1 _ (fun t hf => by
    have h7 : t.val = 7 := by have := (flush0_1 t).mp hf; have := t.isLt; have := N_eq; omega
    obtain rfl : t = last := Fin.ext h7
    rw [Value.flushed1]
    exact (Memref.read_access_unit_zero (Elt Ideal) main_v1_0 idx1_zero (fun a => by rw [congrFun idx1_zero a]; simp) (outsAt0 m c last.val last.isLt).1).symm)
    fun i => ⟨last, (flush0_1 last).mpr rfl, by
      show i ∈ ((View.whole main_v1_0).slice (win0_1.rect last)).set
      rw [View.set_slice_whole, Rect.mem_set_unit]
      intro a
      have h0 : (i 0 : Nat) < 2 := (i 0).isLt
      have h1 : (i 1 : Nat) < 128 := (i 1).isLt
      match a with
      | ⟨0, _⟩ => show win0_1.index last 0 * win0_1.size 0 ≤ (i 0 : Nat) ∧ (i 0 : Nat) < win0_1.index last 0 * win0_1.size 0 + win0_1.xsize (grid0.coords last) 0
                  rw [show win0_1.index last 0 * win0_1.size 0 = 0 from by decide +kernel, show win0_1.xsize (grid0.coords last) 0 = 2 from by decide +kernel]; omega
      | ⟨1, _⟩ => show win0_1.index last 1 * win0_1.size 1 ≤ (i 1 : Nat) ∧ (i 1 : Nat) < win0_1.index last 1 * win0_1.size 1 + win0_1.xsize (grid0.coords last) 1
                  rw [show win0_1.index last 1 * win0_1.size 1 = 0 from by decide +kernel, show win0_1.xsize (grid0.coords last) 1 = 128 from by decide +kernel]; omega⟩

/-- The scale array ends at what the last point leaves. -/
theorem final3 : (dats m 0 c).arrAt 3 cfg0.N = (outsAt0 m c last.val last.isLt).2.2 :=
  (dats m 0 c).arrAt_eq_of_cover 3 _ (fun t hf => by
    have h7 : t.val = 7 := by have := (flush0_3 t).mp hf; have := t.isLt; have := N_eq; omega
    obtain rfl : t = last := Fin.ext h7
    rw [Value.flushed3]
    exact (Memref.read_access_unit_zero (Elt Ideal) main_v1_2 idx3_zero (fun a => by rw [congrFun idx3_zero a]; simp) (outsAt0 m c last.val last.isLt).2.2).symm)
    fun i => ⟨last, (flush0_3 last).mpr rfl, by
      show i ∈ ((View.whole main_v1_2).slice (win0_3.rect last)).set
      rw [View.set_slice_whole, Rect.mem_set_unit]
      intro a
      have h0 : (i 0 : Nat) < 2 := (i 0).isLt
      have h1 : (i 1 : Nat) < 128 := (i 1).isLt
      match a with
      | ⟨0, _⟩ => show win0_3.index last 0 * win0_3.size 0 ≤ (i 0 : Nat) ∧ (i 0 : Nat) < win0_3.index last 0 * win0_3.size 0 + win0_3.xsize (grid0.coords last) 0
                  rw [show win0_3.index last 0 * win0_3.size 0 = 0 from by decide +kernel, show win0_3.xsize (grid0.coords last) 0 = 2 from by decide +kernel]; omega
      | ⟨1, _⟩ => show win0_3.index last 1 * win0_3.size 1 ≤ (i 1 : Nat) ∧ (i 1 : Nat) < win0_3.index last 1 * win0_3.size 1 + win0_3.xsize (grid0.coords last) 1
                  rw [show win0_3.index last 1 * win0_3.size 1 = 0 from by decide +kernel, show win0_3.xsize (grid0.coords last) 1 = 128 from by decide +kernel]; omega⟩

/-- The block a row of the 256×256000 array lies in. -/
abbrev blockOf (R : Fin 256) : Fin cfg0.N := ⟨R.val / 32, by rw [N_eq]; omega⟩

/-- The codes array: each row's codes from the block it lies in. -/
def allCodes (y : S256x256000.Idx) : EReal :=
  codesV (blk m c (blockOf (y 0))) (ValueIdx.ix2 ⟨(y 0).val % 32, Nat.mod_lt _ (by omega)⟩ (y 1))

/-- The codes' window moves down with the grid. -/
theorem idx2_val : ∀ t : Fin cfg0.N, win0_2.index t 0 = t.val ∧ win0_2.index t 1 = 0 :=
  (by decide +kernel : ∀ t : Fin grid0.N, win0_2.index t 0 = t.val ∧ win0_2.index t 1 = 0)

/-- The argument's window moves down with the grid. -/
theorem idx0_val : ∀ t : Fin cfg0.N, win0_0.index t 0 = t.val ∧ win0_0.index t 1 = 0 :=
  (by decide +kernel : ∀ t : Fin grid0.N, win0_0.index t 0 = t.val ∧ win0_0.index t 1 = 0)

/-- What a point writes back is its block of the codes array. -/
theorem flushed2_eq (t : Fin cfg0.N) : (dats m 0 c).flushed 2 t = ((cfg0.win 2).blk t).view.read (Elt Ideal) (allCodes m c) := by
  rw [Value.flushed2, codes_at]
  funext j
  rw [View.read_apply]
  have hj : (j 0).val < 32 := (j 0).isLt
  have he : ((cfg0.win 2).blk t).view.emb j = (ValueIdx.ix2 ⟨32 * t.val + (j 0).val, by have := t.isLt; have := N_eq; omega⟩ (j 1) : S256x256000.Idx) := by
    funext a
    apply Fin.ext
    match a with
    | ⟨0, _⟩ => show win0_2.index t 0 * 32 + 1 * (j 0).val = 32 * t.val + (j 0).val; rw [(idx2_val t).1]; omega
    | ⟨1, _⟩ => show win0_2.index t 1 * 256000 + 1 * (j 1).val = (j 1).val; rw [(idx2_val t).2]; omega
  refine Eq.trans ?_ (congrArg (allCodes m c) he).symm
  show codesV (blk m c t) j = codesV (blk m c (blockOf _)) _
  have hb : blockOf ⟨32 * t.val + (j 0).val, by have := t.isLt; have := N_eq; omega⟩ = t := Fin.ext (by show (32 * t.val + (j 0).val) / 32 = t.val; omega)
  refine Eq.trans ?_ (congrArg (fun u => codesV (blk m c u) _) hb).symm
  refine congrArg (codesV (blk m c t)) ?_
  funext a
  apply Fin.ext
  match a with
  | ⟨0, _⟩ => show (j 0).val = (32 * t.val + (j 0).val) % 32; omega
  | ⟨1, _⟩ => rfl

/-- The codes array ends at the blocks' codes. -/
theorem final2 : (dats m 0 c).arrAt 2 cfg0.N = allCodes m c :=
  (dats m 0 c).arrAt_eq_of_cover 2 _ (fun t _ => flushed2_eq m c t) fun i => ⟨blockOf (i 0), flush0_2 _, by
    show i ∈ ((View.whole main_v1_1).slice (win0_2.rect (blockOf (i 0)))).set
    rw [View.set_slice_whole, Rect.mem_set_unit]
    intro a
    have h0 : (i 0 : Nat) < 256 := (i 0).isLt
    have h1 : (i 1 : Nat) < 256000 := (i 1).isLt
    match a with
    | ⟨0, _⟩ =>
      show win0_2.index (blockOf (i 0)) 0 * 32 ≤ (i 0 : Nat) ∧ (i 0 : Nat) < win0_2.index (blockOf (i 0)) 0 * 32 + 32
      rw [(idx2_val _).1]
      show (i 0).val / 32 * 32 ≤ (i 0 : Nat) ∧ (i 0 : Nat) < (i 0).val / 32 * 32 + 32
      omega
    | ⟨1, _⟩ =>
      show win0_2.index (blockOf (i 0)) 1 * 256000 ≤ (i 1 : Nat) ∧ (i 1 : Nat) < win0_2.index (blockOf (i 0)) 1 * 256000 + 256000
      rw [(idx2_val _).2]
      omega⟩

/-- The kernel reads the argument with its first two axes merged. -/
theorem V_v0 : V m c main_v0 = shapeCast S256x256000 (m ((c : Thread nD τ).loc main_arg0)) shapeCasts_S2x128x256000_S256x256000 := by
  show StableHlo.after hostOps0 _ _ = _
  after_results
  rfl

/-- Row `r` of block `t` is row `(32 t + r) % 128` of plane `(32 t + r) / 128` of the argument. -/
theorem blk_apply (t : Fin cfg0.N) (r : Fin 32) (cl : Fin 256000) (b : Fin 2) (l : Fin 128) (h : 32 * t.val + r.val = 128 * b.val + l.val) :
    blk m c t (ValueIdx.ix2 r cl) = m ((c : Thread nD τ).loc main_arg0) (ValueIdx.ix3 b l cl) := by
  unfold blk iblk
  rw [View.read_apply]
  show V m c main_v0 _ = _
  rw [V_v0]
  refine shapeCast_apply _ _ _ _ ?_
  rw [Shape.rowMajor_val_two]
  refine (Shape.rowMajor_val_three _).trans ?_
  show (b.val * 128 + l.val) * 256000 + cl.val = (win0_0.index t 0 * 32 + 1 * r.val) * 256000 + (win0_0.index t 1 * 256000 + 1 * cl.val)
  rw [(idx0_val t).1, (idx0_val t).2]
  omega

end Cert.KernelIdeal.Blocks
-- ==== Proof.Extremes.lean ====
module

public import proofs.«01_k».proof.Proof.Math

@[expose] public section

noncomputable section

/-! A finite row of real numbers: its largest and smallest entry, and its values summed lane by lane. -/

namespace Cert.RowMath

variable {n : ℕ} [NeZero n] (f : Fin n → ℝ)

/-- The largest entry of a row. -/
def hiR : ℝ := Finset.univ.sup' Finset.univ_nonempty f

/-- The smallest entry of a row. -/
def loR : ℝ := Finset.univ.inf' Finset.univ_nonempty f

/-- No entry is above the largest. -/
theorem le_hiR (k : Fin n) : f k ≤ hiR f := Finset.le_sup' f (Finset.mem_univ k)

/-- No entry is below the smallest. -/
theorem loR_le (k : Fin n) : loR f ≤ f k := Finset.inf'_le f (Finset.mem_univ k)

/-- The largest entry is attained. -/
theorem hiR_mem : ∃ k, f k = hiR f := by
  obtain ⟨k, -, h⟩ := Finset.exists_mem_eq_sup' Finset.univ_nonempty f
  exact ⟨k, h.symm⟩

/-- The smallest entry is attained. -/
theorem loR_mem : ∃ k, f k = loR f := by
  obtain ⟨k, -, h⟩ := Finset.exists_mem_eq_inf' Finset.univ_nonempty f
  exact ⟨k, h.symm⟩

/-- The distance from a row's least scaled entry to its log-sum-exp. -/
def spread (f : Fin n → ℝ) : ℝ := hiR f * (5 / 4) + Real.log (expSum f (hiR f)) - loR f * (5 / 4)

/-- A row of finite entries has a positive sum of exponentials and a spread of ordinary size. -/
theorem spread_facts (f : Fin 256000 → ℝ) (hf : ∀ k, |f k| < 2 ^ 128) :
    0 < expSum f (hiR f) ∧ 1 / 2 ≤ spread f ∧ spread f < 2 ^ 130 := by
  obtain ⟨a, ha⟩ := hiR_mem f
  obtain ⟨b, hb⟩ := loR_mem f
  exact spread_bounds f (hiR f) (loR f) (le_hiR f) (loR_le f) (ha ▸ (abs_lt.mp (hf a)).2) (hb ▸ (abs_lt.mp (hf b)).1)

/-- A value held between `-448` and `448`. -/
def clip (v : EReal) : EReal :=
  min (Idealize.ShloMosaic.Ideal.ofBits .f32 0x43E00000#32) (max (Idealize.ShloMosaic.Ideal.ofBits .f32 0xC3E00000#32) v)

/-- The code of entry `k` of a row: its log-softmax over the row's scale, held between `-448` and `448`. -/
def codeR (f : Fin n → ℝ) (k : Fin n) : EReal :=
  clip ((((f k * (5 / 4) - (hiR f * (5 / 4) + Real.log (expSum f (hiR f)))) * (2 : ℝ) ^ (-(flog (spread f * q) + 1)) : ℝ) : EReal))

/-- A running maximum from `-∞` over values that are at most `b`, one of them `b`, is `b`. -/
theorem fold_max_eq {ι : Type} [Fintype ι] (g : ι → EReal) (b : EReal) (h1 : ∀ k, g k ≤ b) (h2 : ∃ k, b ≤ g k) :
    (Finset.univ : Finset ι).fold max ⊥ g = b := by
  refine le_antisymm ((Finset.fold_max_le b).mpr ⟨bot_le, fun k _ => h1 k⟩) ?_
  obtain ⟨k, hk⟩ := h2
  exact Finset.le_fold_max b |>.mpr (Or.inr ⟨k, Finset.mem_univ k, hk⟩)

/-- A running minimum from `+∞` over values that are at least `b`, one of them `b`, is `b`. -/
theorem fold_min_eq {ι : Type} [Fintype ι] (g : ι → EReal) (b : EReal) (h1 : ∀ k, b ≤ g k) (h2 : ∃ k, g k ≤ b) :
    (Finset.univ : Finset ι).fold min ⊤ g = b := by
  refine le_antisymm ?_ ((Finset.le_fold_min b).mpr ⟨le_top, fun k _ => h1 k⟩)
  obtain ⟨k, hk⟩ := h2
  exact Finset.fold_min_le b |>.mpr (Or.inr ⟨k, Finset.mem_univ k, hk⟩)

/-- A sum over tiles of a sum over lanes is the sum over the whole row. -/
theorem tile_sum (g : ℕ → EReal) (w : ℕ) : ∀ t : ℕ,
    ∑ a ∈ Finset.range t, ∑ l ∈ Finset.range w, g (w * a + l) = ∑ k ∈ Finset.range (w * t), g k
  | 0 => by simp
  | t + 1 => by rw [Finset.sum_range_succ, tile_sum g w t, Nat.mul_succ, Finset.sum_range_add]

/-- A sum over lanes of a sum over tiles is the sum over the whole row. -/
theorem lane_sum (g : ℕ → EReal) :
    ∑ l : Fin 128, ∑ a ∈ Finset.range 2000, g (128 * a + l.val) = ∑ k : Fin 256000, g k.val := by
  rw [Finset.sum_comm, Fin.sum_univ_eq_sum_range g 256000, ← tile_sum g 128 2000]
  exact Finset.sum_congr rfl fun a _ => Fin.sum_univ_eq_sum_range (fun l => g (128 * a + l)) 128

/-- The sum of real numbers, taken in the extended reals. -/
theorem coe_sum {ι : Type} (s : Finset ι) (g : ι → ℝ) : ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- `2 ^ (y · (5/4) / log 2) = exp (y · (5/4))`. -/
theorem exp2_scaled (y : ℝ) : Real.rpow 2 (y * (5 / 4 * (Real.log 2)⁻¹)) = Real.exp (y * (5 / 4)) := by
  have h2 : Real.log 2 ≠ 0 := (Real.log_pos (by norm_num)).ne'
  show (2 : ℝ) ^ (y * (5 / 4 * (Real.log 2)⁻¹)) = _
  rw [Real.rpow_def_of_pos (by norm_num)]
  congr 1
  field_simp

end Cert.RowMath
-- ==== Proof.Rows.lean ====
module

public import proofs.«01_k».proof.Proof.Line
public import proofs.«01_k».proof.Proof.Extremes

@[expose] public section

set_option maxRecDepth 16384

noncomputable section

/-! The values of one row of a block, when the row's entries are real numbers. -/

open Idealize.ShloMosaic Idealize.ShloMosaic.TcCoe Idealize.SL.Sem Idealize.ShloMosaic.ValueIdx

namespace Cert.KernelIdeal.Blocks

open Cert.KernelIdeal Cert.KernelIdeal.Gen Cert.RowMath

/-- A column of 32 values read at row `r`. -/
theorem column_apply (v : FVec Ideal S32 .f32) (r : Fin 32) :
    shapeCast S32x1 v shapeCasts_S32_S32x1 (ValueIdx.ix2 r 0) = v (ValueIdx.ix1 r) :=
  shapeCast_apply v _ _ (ValueIdx.ix1 r) (by
    rw [Shape.rowMajor_val_two, Shape.rowMajor_val_one]
    simp)

/-- The index of lane `l` of row `r`. -/
theorem lane_ix (r : Fin 32) (l : Fin 128) :
    reduces_S32x128_S32.lift (ValueIdx.ix1 r) l = (ValueIdx.ix2 r l : S32x128.Idx) := by
  funext a
  match a with
  | ⟨0, _⟩ => rfl
  | ⟨1, _⟩ => rfl

/-- The maximum over the lanes of a row. -/
theorem row_max (src : FVec Ideal S32x128 .f32) (r : Fin 32) :
    multiReduction (F := Ideal) .maximumf [1] S32 src 0xFF800000#32 reduces_S32x128_S32 (.inl rfl) rfl (ValueIdx.ix1 r)
      = (Finset.univ : Finset (Fin 128)).fold max ⊥ fun l => src (ValueIdx.ix2 r l) := by
  refine (Ideal.multiReduction_maximumf_single src _ _ _ _ _).trans ?_
  rw [show (FloatOps.ofBits .f32 0xFF800000#32 : Ideal .f32) = (⊥ : EReal) from lit_bot]
  exact congrArg (Finset.fold max (⊥ : EReal) · Finset.univ) (funext fun l => congrArg src (lane_ix r l))

/-- The minimum over the lanes of a row. -/
theorem row_min (src : FVec Ideal S32x128 .f32) (r : Fin 32) :
    multiReduction (F := Ideal) .minimumf [1] S32 src 0x7F800000#32 reduces_S32x128_S32 (.inl rfl) rfl (ValueIdx.ix1 r)
      = (Finset.univ : Finset (Fin 128)).fold min ⊤ fun l => src (ValueIdx.ix2 r l) := by
  refine (multiReduction_minimumf_eq_fold src _ _ _ _ _).trans ((reduces_S32x128_S32.fold_filter_drop_single _ _ src _).trans ?_)
  rw [show (FloatOps.ofBits .f32 0x7F800000#32 : Ideal .f32) = (⊤ : EReal) from lit_top]
  exact congrArg (Finset.fold min (⊤ : EReal) · Finset.univ) (funext fun l => congrArg src (lane_ix r l))

/-- The sum over the lanes of a row. -/
theorem row_sum (src : FVec Ideal S32x128 .f32) (r : Fin 32) :
    multiReduction (F := Ideal) .add [1] S32 src 0x00000000#32 reduces_S32x128_S32 (.inl rfl) rfl (ValueIdx.ix1 r)
      = ∑ l : Fin 128, src (ValueIdx.ix2 r l) :=
  (Ideal.multiReduction_add_single src _ _ _ _ _).trans (Finset.sum_congr rfl fun l _ => congrArg src (lane_ix r l))

section

variable (x : Vec Ideal S32x256000 .bf16) (r : Fin 32) (f : Fin 256000 → ℝ)
  (hx : ∀ cl, x (ValueIdx.ix2 r cl) = ((f cl : ℝ) : EReal))

include hx

/-- An entry of the row. -/
theorem row_eq (k : ℕ) (hk : k < 256000) : row x r k = ((f ⟨k, hk⟩ : ℝ) : EReal) := by
  unfold row
  rw [dif_pos hk]
  exact hx _

/-- An entry of a tile of the row. -/
theorem tile_eq (t : ℕ) (l : Fin 128) (hk : 128 * t + l.val < 256000) :
    tile x (128 * t) (ValueIdx.ix2 r l) = ((f ⟨128 * t + l.val, hk⟩ : ℝ) : EReal) :=
  row_eq x r f hx _ hk

/-- The kernel's maximum of a row is the row's largest entry. -/
theorem hi_row : k0_pay32 (F := Ideal) (hiV x) (ValueIdx.ix2 r 0) = ((hiR f : ℝ) : EReal) := by
  refine (column_apply _ r).trans ((row_max _ r).trans ?_)
  refine fold_max_eq _ _ (fun l => ?_) ?_
  · show (Finset.range 2000).sup (fun t => tile x (128 * t) (ValueIdx.ix2 r l)) ≤ _
    refine Finset.sup_le fun t ht => ?_
    have := Finset.mem_range.mp ht
    have := l.isLt
    rw [tile_eq x r f hx t l (by omega)]
    exact EReal.coe_le_coe_iff.mpr (le_hiR f _)
  · obtain ⟨k, hk⟩ := hiR_mem f
    have hlt := k.isLt
    refine ⟨⟨k.val % 128, Nat.mod_lt _ (by omega)⟩, ?_⟩
    show _ ≤ (Finset.range 2000).sup (fun t => tile x (128 * t) (ValueIdx.ix2 r ⟨k.val % 128, Nat.mod_lt _ (by omega)⟩))
    refine le_trans (le_of_eq ?_) (Finset.le_sup (f := fun t => tile x (128 * t) (ValueIdx.ix2 r ⟨k.val % 128, Nat.mod_lt _ (by omega)⟩))
      (Finset.mem_range.mpr (show k.val / 128 < 2000 by omega)))
    rw [tile_eq x r f hx _ _ (by show 128 * (k.val / 128) + k.val % 128 < 256000; omega), ← hk]
    congr 2
    exact Fin.ext (Nat.div_add_mod k.val 128).symm

/-- The kernel's minimum of a row is the row's smallest entry. -/
theorem lo_row : shapeCast S32x1 (multiReduction (F := Ideal) .minimumf [1] S32 (extf .f32 (loV x) bitsLt_bf16_f32) 0x7F800000#32
    reduces_S32x128_S32 (.inl rfl) rfl) shapeCasts_S32_S32x1 (ValueIdx.ix2 r 0) = ((loR f : ℝ) : EReal) := by
  refine (column_apply _ r).trans ((row_min _ r).trans ?_)
  refine fold_min_eq _ _ (fun l => ?_) ?_
  · show _ ≤ (Finset.range 2000).inf (fun t => tile x (128 * t) (ValueIdx.ix2 r l))
    refine Finset.le_inf fun t ht => ?_
    have := Finset.mem_range.mp ht
    have := l.isLt
    rw [tile_eq x r f hx t l (by omega)]
    exact EReal.coe_le_coe_iff.mpr (loR_le f _)
  · obtain ⟨k, hk⟩ := loR_mem f
    have hlt := k.isLt
    refine ⟨⟨k.val % 128, Nat.mod_lt _ (by omega)⟩, ?_⟩
    show (Finset.range 2000).inf (fun t => tile x (128 * t) (ValueIdx.ix2 r ⟨k.val % 128, Nat.mod_lt _ (by omega)⟩)) ≤ _
    refine le_trans (Finset.inf_le (f := fun t => tile x (128 * t) (ValueIdx.ix2 r ⟨k.val % 128, Nat.mod_lt _ (by omega)⟩))
      (Finset.mem_range.mpr (show k.val / 128 < 2000 by omega))) (le_of_eq ?_)
    rw [tile_eq x r f hx _ _ (by show 128 * (k.val / 128) + k.val % 128 < 256000; omega), ← hk]
    congr 2
    exact Fin.ext (Nat.div_add_mod k.val 128)

/-- One exponential of the kernel. -/
theorem term_row (l : Fin 128) (k : ℕ) (hk : k < 256000) :
    term (hiV x) (ValueIdx.ix2 r l) (row x r k) = ((Real.exp ((f ⟨k, hk⟩ - hiR f) * (5 / 4)) : ℝ) : EReal) := by
  unfold term
  rw [row_eq x r f hx k hk,
    show k0_pay33 (F := Ideal) (hiV x) (ValueIdx.ix2 r l) = ((hiR f : ℝ) : EReal) from by
      unfold k0_pay33
      simp only [shapeCast_self]
      exact (col_spread _ r l).trans (hi_row x r f hx),
    IdealRules.named_const.ideal_named_scalar _ _ _ (((5 / 4) * (Real.log 2)⁻¹ : ℝ) : EReal) rfl,
    ← EReal.coe_sub, ← EReal.coe_mul, Ideal.exp2_coe, exp2_scaled]

/-- The kernel's logarithm of a row's sum of exponentials. -/
theorem log_row (hpos : 0 < expSum f (hiR f)) :
    k0_pay36 (F := Ideal) (accV x) (ValueIdx.ix2 r 0) = ((Real.log (expSum f (hiR f)) : ℝ) : EReal) := by
  have hs : shapeCast S32x1 (multiReduction (F := Ideal) .add [1] S32 (accV x) 0x00000000#32 reduces_S32x128_S32 (.inl rfl) rfl)
      shapeCasts_S32_S32x1 (ValueIdx.ix2 r 0) = ((expSum f (hiR f) : ℝ) : EReal) := by
    refine (column_apply _ r).trans ((row_sum _ r).trans ?_)
    refine (Finset.sum_congr rfl fun l _ => ?_).trans ((lane_sum fun k => if hk : k < 256000 then
      ((Real.exp ((f ⟨k, hk⟩ - hiR f) * (5 / 4)) : ℝ) : EReal) else 0).trans ?_)
    · show ∑ t ∈ Finset.range 2000, term (hiV x) (ValueIdx.ix2 r l) (row x r (128 * t + l.val)) = _
      refine Finset.sum_congr rfl fun t ht => ?_
      have := Finset.mem_range.mp ht
      have := l.isLt
      rw [dif_pos (by omega), term_row x r f hx]
    · unfold expSum
      rw [← coe_sum]
      exact Finset.sum_congr rfl fun k _ => dif_pos k.isLt
  show Ideal.log _ = _
  rw [hs, Ideal.log_coe, if_neg (not_le.mpr hpos)]

/-- The kernel's log-sum-exp of a row. -/
theorem lse_row (hpos : 0 < expSum f (hiR f)) :
    lseV x (ValueIdx.ix2 r 0) = ((hiR f * (5 / 4) + Real.log (expSum f (hiR f)) : ℝ) : EReal) := by
  show k0_pay32 (F := Ideal) (hiV x) (ValueIdx.ix2 r 0) * Ideal.ofBits .f32 0x3FA00000#32
    + k0_pay36 (F := Ideal) (accV x) (ValueIdx.ix2 r 0) = _
  rw [hi_row x r f hx, log_row x r f hx hpos, lit_five_quarters, ← EReal.coe_mul, ← EReal.coe_add]

/-- The kernel's distance from a row's least scaled entry to its log-sum-exp. -/
theorem spread_row (hpos : 0 < expSum f (hiR f)) :
    k0_pay38 (F := Ideal) (hiV x) (loV x) (accV x) (ValueIdx.ix2 r 0) = ((spread f : ℝ) : EReal) := by
  show lseV x (ValueIdx.ix2 r 0) - shapeCast S32x1 (multiReduction (F := Ideal) .minimumf [1] S32 (extf .f32 (loV x) bitsLt_bf16_f32)
    0x7F800000#32 reduces_S32x128_S32 (.inl rfl) rfl) shapeCasts_S32_S32x1 (ValueIdx.ix2 r 0) * Ideal.ofBits .f32 0x3FA00000#32 = _
  rw [lse_row x r f hx hpos, lo_row x r f hx, lit_five_quarters, ← EReal.coe_mul, ← EReal.coe_sub]
  rfl

end

/-- The first seven comparisons of the exponent search, written out. -/
theorem seek_steps (v : FVec Ideal S32x1 .f32) (e : IVec S32x1 32) (j : S32x1.Idx) :
    k0_pay43 (F := Ideal) v e k0_pay42 j
      = step (v j) 2#32 (step (v j) 4#32 (step (v j) 8#32 (step (v j) 16#32 (step (v j) 32#32 (step (v j) 64#32 (e j)))))) := rfl

/-- One comparison of the exponent search. -/
theorem one_step (v : FVec Ideal S32x1 .f32) (a b : BitVec 32) (j : S32x1.Idx) :
    select (cmpf .oge v (bitcastToFloat .f32 (shli (addi (broadcast S32x1 a) (broadcast S32x1 b)) (broadcast S32x1 23#32))))
      (addi (broadcast S32x1 a) (broadcast S32x1 b)) (broadcast S32x1 a) j = step (v j) b a := rfl

/-- The first comparison of the exponent search. -/
theorem first_step (hi lo : FVec Ideal S32x128 .bf16) (acc : FVec Ideal S32x128 .f32) (j : S32x1.Idx) :
    k0_pay41 (F := Ideal) hi lo acc j = step (k0_pay40 (F := Ideal) hi lo acc j) 128#32 0#32 := by
  unfold k0_pay41
  exact one_step _ _ _ j

/-- The last comparison of the exponent search. -/
theorem last_step (v : FVec Ideal S32x1 .f32) (e : IVec S32x1 32) (j : S32x1.Idx) :
    Scalar.select (k0_pay45 (F := Ideal) v e k0_pay42 j) (k0_pay44 (F := Ideal) v e k0_pay42 j) (k0_pay43 (F := Ideal) v e k0_pay42 j)
      = step (v j) 1#32 (k0_pay43 (F := Ideal) v e k0_pay42 j) := by
  unfold k0_pay45 k0_pay44
  generalize k0_pay43 (F := Ideal) v e k0_pay42 = w
  rfl

/-- The eight comparisons together are the search. -/
theorem seek_row (x : Vec Ideal S32x256000 .bf16) (j : S32x1.Idx) :
    Scalar.select (takeV x j) (nextV x j) (seekV x j) = search (k0_pay40 (F := Ideal) (hiV x) (loV x) (accV x) j) := by
  unfold takeV nextV seekV
  rw [last_step, seek_steps, first_step]
  rfl

section

variable (x : Vec Ideal S32x256000 .bf16) (r : Fin 32) (f : Fin 256000 → ℝ)
  (hx : ∀ cl, x (ValueIdx.ix2 r cl) = ((f cl : ℝ) : EReal)) (hf : ∀ k, |f k| < 2 ^ 128)

include hx hf

/-- The exponent field the kernel takes for a row is that of the search. -/
theorem exponent_row : k0_pay46 (posV x) (seekV x) (nextV x) (takeV x) (ValueIdx.ix2 r 0)
    = search ((spread f * q : ℝ) : EReal) - 126#32 := by
  obtain ⟨hpos, hl, -⟩ := spread_facts f hf
  have hp : posV x (ValueIdx.ix2 r 0) = 1#1 := by
    show BitVec.ofBool (decide (Ideal.ofBits .f32 0x00000000#32 < k0_pay38 (F := Ideal) (hiV x) (loV x) (accV x) (ValueIdx.ix2 r 0))) = _
    rw [spread_row x r f hx hpos, lit_zero, decide_eq_true (EReal.coe_pos.mpr (by linarith))]
    rfl
  have hy : k0_pay40 (F := Ideal) (hiV x) (loV x) (accV x) (ValueIdx.ix2 r 0) = ((spread f * q : ℝ) : EReal) := by
    show k0_pay38 (F := Ideal) (hiV x) (loV x) (accV x) (ValueIdx.ix2 r 0) * Ideal.ofBits .f32 0x3B124925#32 = _
    rw [spread_row x r f hx hpos, lit_q, ← EReal.coe_mul]
  show Scalar.select (posV x (ValueIdx.ix2 r 0)) (Scalar.select (takeV x (ValueIdx.ix2 r 0)) (nextV x (ValueIdx.ix2 r 0))
    (seekV x (ValueIdx.ix2 r 0)) - 126#32) 0#32 = _
  rw [hp, seek_row, hy]
  rfl

/-- The kernel's scale of a row. -/
theorem scale_row : Ideal.ofBits .f32 (bitsV x (ValueIdx.ix2 r 0)) = (((2 : ℝ) ^ (flog (spread f * q) + 1) : ℝ) : EReal) := by
  obtain ⟨-, hl, hu⟩ := spread_facts f hf
  obtain ⟨h1, h2⟩ := q_spread _ hl hu
  rw [← (pow2_search _ h1 h2).1, ← exponent_row x r f hx hf]
  rfl

/-- The kernel's inverse scale of a row. -/
theorem inv_row : invV x (ValueIdx.ix2 r 0) = (((2 : ℝ) ^ (-(flog (spread f * q) + 1)) : ℝ) : EReal) := by
  obtain ⟨-, hl, hu⟩ := spread_facts f hf
  obtain ⟨h1, h2⟩ := q_spread _ hl hu
  rw [← (pow2_search _ h1 h2).2, ← exponent_row x r f hx hf]
  rfl

/-- The kernel's code of one entry. -/
theorem code_row (cl : Fin 256000) : codesV x (ValueIdx.ix2 r cl) = codeR f cl := by
  obtain ⟨hpos, -, -⟩ := spread_facts f hf
  show code (invV x (ValueIdx.ix2 r 0) * ((5 / 4 : ℝ) : EReal)) (lseV x (ValueIdx.ix2 r 0) * invV x (ValueIdx.ix2 r 0)) (x (ValueIdx.ix2 r cl)) = _
  rw [inv_row x r f hx hf, lse_row x r f hx hpos, hx]
  unfold code codeR clip
  rw [← EReal.coe_mul, ← EReal.coe_mul, ← EReal.coe_mul, ← EReal.coe_sub]
  congr 3
  ring_nf

end

end Cert.KernelIdeal.Blocks
-- ==== Proof.RefRows.lean ====
module

public import proofs.«01_k».proof.Proof.Gen.ReferenceIdeal.Value
public import Idealize.ShloMosaic.Lib.ValueIdx
public import proofs.«01_k».proof.Proof.Extremes

@[expose] public section

set_option maxRecDepth 16384

noncomputable section

/-! The reference's values for one row of the argument, when the row's entries are real numbers. -/

open Idealize.ShloMosaic Idealize.ShloMosaic.TcCoe Idealize.SL.Sem Idealize.ShloMosaic.ValueIdx

namespace Cert.ReferenceIdeal.Rows

open Cert.ReferenceIdeal Cert.ReferenceIdeal.Gen Cert.RowMath

/-- A 2×128 array seen as 2×128×1. -/
theorem keep_apply (v : FVec Ideal S2x128 .f32) (b : Fin 2) (l : Fin 128) :
    shapeCast S2x128x1 v shapeCasts_S2x128_S2x128x1 (ValueIdx.ix3 b l 0) = v (ValueIdx.ix2 b l) :=
  shapeCast_apply v _ _ (ValueIdx.ix2 b l) (by
    rw [Shape.rowMajor_val_two, Shape.rowMajor_val_three]
    simp)

/-- A 2×128×1 array seen as 2×128. -/
theorem drop_apply (v : FVec Ideal S2x128x1 .f32) (b : Fin 2) (l : Fin 128) :
    shapeCast S2x128 v shapeCasts_S2x128x1_S2x128 (ValueIdx.ix2 b l) = v (ValueIdx.ix3 b l 0) :=
  shapeCast_apply v _ _ (ValueIdx.ix3 b l 0) (by
    rw [Shape.rowMajor_val_two, Shape.rowMajor_val_three]
    simp)

/-- A 2×128×1 array spread over the rows. -/
theorem deep_apply (v : FVec Ideal S2x128x1 .f32) (b : Fin 2) (l : Fin 128) (k : Fin 256000) :
    broadcastTo S2x128x256000 v broadcasts_S2x128x1_S2x128x256000 (ValueIdx.ix3 b l k) = v (ValueIdx.ix3 b l 0) :=
  broadcastTo_apply _ _ _ _ fun a => by
    match a with
    | ⟨0, _⟩ => rfl
    | ⟨1, _⟩ => rfl
    | ⟨2, _⟩ => rfl

/-- The first two axes merged. -/
theorem flat_apply (v : S2x128x256000.Idx → EReal) (R : Fin 256) (k : Fin 256000) :
    shapeCast S256x256000 v shapeCasts_S2x128x256000_S256x256000 (ValueIdx.ix2 R k)
      = v (ValueIdx.ix3 ⟨R.val / 128, by omega⟩ ⟨R.val % 128, Nat.mod_lt _ (by omega)⟩ k) :=
  shapeCast_apply v _ _ _ (by
    rw [Shape.rowMajor_val_two, Shape.rowMajor_val_three]
    show (R.val / 128 * 128 + R.val % 128) * 256000 + k.val = R.val * 256000 + k.val
    omega)

/-- The index of entry `k` of a row. -/
theorem deep_ix (b : Fin 2) (l : Fin 128) (k : Fin 256000) :
    reduces_S2x128x256000_S2x128.lift (ValueIdx.ix2 b l) k = (ValueIdx.ix3 b l k : S2x128x256000.Idx) := by
  funext a
  match a with
  | ⟨0, _⟩ => rfl
  | ⟨1, _⟩ => rfl
  | ⟨2, _⟩ => rfl

/-- The maximum of a row. -/
theorem deep_max (src : FVec Ideal S2x128x256000 .f32) (b : Fin 2) (l : Fin 128) :
    multiReduction (F := Ideal) .maximumf [2] S2x128 src 0xFF800000#32 reduces_S2x128x256000_S2x128 (.inl rfl) rfl (ValueIdx.ix2 b l)
      = (Finset.univ : Finset (Fin 256000)).fold max ⊥ fun k => src (ValueIdx.ix3 b l k) := by
  refine (Ideal.multiReduction_maximumf_single src _ _ _ _ _).trans ?_
  rw [show (FloatOps.ofBits .f32 0xFF800000#32 : Ideal .f32) = (⊥ : EReal) from lit_bot]
  exact congrArg (Finset.fold max (⊥ : EReal) · Finset.univ) (funext fun k => congrArg src (deep_ix b l k))

/-- The minimum of a row. -/
theorem deep_min (src : FVec Ideal S2x128x256000 .f32) (b : Fin 2) (l : Fin 128) :
    multiReduction (F := Ideal) .minimumf [2] S2x128 src 0x7F800000#32 reduces_S2x128x256000_S2x128 (.inl rfl) rfl (ValueIdx.ix2 b l)
      = (Finset.univ : Finset (Fin 256000)).fold min ⊤ fun k => src (ValueIdx.ix3 b l k) := by
  refine (multiReduction_minimumf_eq_fold src _ _ _ _ _).trans
    ((reduces_S2x128x256000_S2x128.fold_filter_drop_single _ _ src _).trans ?_)
  rw [show (FloatOps.ofBits .f32 0x7F800000#32 : Ideal .f32) = (⊤ : EReal) from lit_top]
  exact congrArg (Finset.fold min (⊤ : EReal) · Finset.univ) (funext fun k => congrArg src (deep_ix b l k))

/-- The sum of a row. -/
theorem deep_sum (src : FVec Ideal S2x128x256000 .f32) (b : Fin 2) (l : Fin 128) :
    multiReduction (F := Ideal) .add [2] S2x128 src 0x00000000#32 reduces_S2x128x256000_S2x128 (.inl rfl) rfl (ValueIdx.ix2 b l)
      = ∑ k : Fin 256000, src (ValueIdx.ix3 b l k) :=
  (Ideal.multiReduction_add_single src _ _ _ _ _).trans (Finset.sum_congr rfl fun k _ => congrArg src (deep_ix b l k))

/-- `2` to a whole power. -/
theorem exp2_int (n : ℤ) : Ideal.exp2 (((n : ℝ) : EReal)) = (((2 : ℝ) ^ n : ℝ) : EReal) := by
  rw [Ideal.exp2_coe]
  exact congrArg _ (Real.rpow_intCast 2 n)

/-- The scaled entries, one operation at a time. -/
theorem scaled_at (x : FVec Ideal S2x128x256000 .bf16) (t : Ideal .f32) (i : S2x128x256000.Idx) :
    divf (extf .f32 x bitsLt_bf16_f32) (broadcast S2x128x256000 t) i = Ideal.div (x i) t := rfl

/-- One exponential, one operation at a time. -/
theorem exp_at (z w : FVec Ideal S2x128x256000 .f32) (i : S2x128x256000.Idx) : exp (subf z w) i = Ideal.exp (z i - w i) := rfl

/-- A logarithm at one index. -/
theorem log_at (z : FVec Ideal S2x128x1 .f32) (i : S2x128x1.Idx) : log z i = Ideal.log (z i) := rfl

/-- A power of two at one index. -/
theorem exp2_at (z : FVec Ideal S2x128x1 .f32) (i : S2x128x1.Idx) : exp2 z i = Ideal.exp2 (z i) := rfl

/-- The exponent of the scale, one operation at a time. -/
theorem exponent_at (z w : FVec Ideal S2x128x1 .f32) (t : Ideal .f32) (i : S2x128x1.Idx) :
    addf (floor (divf (log (mulf (subf z w) (broadcast S2x128x1 (Scalar.ofBits .f32 0x3B124925#32)))) (broadcast S2x128x1 t)))
      (broadcast S2x128x1 (Scalar.ofBits .f32 0x3F800000#32)) i
      = Ideal.liftRound Int.floor (Ideal.div (Ideal.log ((z i - w i) * Ideal.ofBits .f32 0x3B124925#32)) t) + Ideal.ofBits .f32 0x3F800000#32 := rfl

/-- A code, one operation at a time. -/
theorem code_at (z w e : FVec Ideal S2x128x256000 .f32) (i : S2x128x256000.Idx) :
    truncf .fp8e4m3 (minimumf (broadcast S2x128x256000 (Scalar.ofBits .f32 0x43E00000#32))
      (maximumf (broadcast S2x128x256000 (Scalar.ofBits .f32 0xC3E00000#32)) (mulf (subf z w) e))) bitsLt_fp8e4m3_f32 i
      = clip ((z i - w i) * e i) := rfl

/-- The inverse scale, one operation at a time. -/
theorem inverse_at (z : FVec Ideal S2x128x1 .f32) (i : S2x128x1.Idx) :
    exp2 (subf (broadcast S2x128x1 (Scalar.ofBits .f32 0x00000000#32)) z) i = Ideal.exp2 (Ideal.ofBits .f32 0x00000000#32 - z i) := rfl

variable (x : Vec Ideal S2x128x256000 .bf16) (b : Fin 2) (l : Fin 128) (f : Fin 256000 → ℝ)
  (hx : ∀ k, x (ValueIdx.ix3 b l k) = ((f k : ℝ) : EReal))

include hx

/-- An entry over the temperature. -/
theorem scaled (k : Fin 256000) : k0_pay2 (F := Ideal) x (ValueIdx.ix3 b l k) = ((f k * (5 / 4) : ℝ) : EReal) := by
  unfold k0_pay2
  refine (scaled_at x _ _).trans ?_
  rw [IdealRules.named_const.ideal_named_scalar _ _ _ ((4 / 5 : ℝ) : EReal) rfl, Ideal.div_coe (by norm_num), hx, ← EReal.coe_mul]
  norm_num

/-- The reference's maximum of a row. -/
theorem max_row : k0_pay3 (F := Ideal) x (ValueIdx.ix3 b l 0) = ((hiR f * (5 / 4) : ℝ) : EReal) := by
  unfold k0_pay3
  dsimp only
  rw [keep_apply, deep_max]
  refine fold_max_eq _ _ (fun k => ?_) ?_
  · rw [scaled x b l f hx]
    exact EReal.coe_le_coe_iff.mpr (mul_le_mul_of_nonneg_right (le_hiR f k) (by norm_num))
  · obtain ⟨k, hk⟩ := hiR_mem f
    exact ⟨k, by rw [scaled x b l f hx, hk]⟩

/-- The reference's minimum of a row. -/
theorem min_row : shapeCast S2x128x1 (multiReduction (F := Ideal) .minimumf [2] S2x128 (k0_pay2 x) 0x7F800000#32
    reduces_S2x128x256000_S2x128 (.inl rfl) rfl) shapeCasts_S2x128_S2x128x1 (ValueIdx.ix3 b l 0) = ((loR f * (5 / 4) : ℝ) : EReal) := by
  rw [keep_apply, deep_min]
  refine fold_min_eq _ _ (fun k => ?_) ?_
  · rw [scaled x b l f hx]
    exact EReal.coe_le_coe_iff.mpr (mul_le_mul_of_nonneg_right (loR_le f k) (by norm_num))
  · obtain ⟨k, hk⟩ := loR_mem f
    exact ⟨k, by rw [scaled x b l f hx, hk]⟩

/-- The reference's logarithm of a row's sum of exponentials. -/
theorem log_row (hpos : 0 < expSum f (hiR f)) :
    k0_pay4 (F := Ideal) x (ValueIdx.ix3 b l 0) = ((Real.log (expSum f (hiR f)) : ℝ) : EReal) := by
  have hs : ∑ k : Fin 256000, exp (subf (k0_pay2 (F := Ideal) x) (broadcastTo S2x128x256000 (k0_pay3 (F := Ideal) x)
      broadcasts_S2x128x1_S2x128x256000)) (ValueIdx.ix3 b l k) = ((expSum f (hiR f) : ℝ) : EReal) := by
    unfold expSum
    rw [← coe_sum]
    refine Finset.sum_congr rfl fun k _ => ?_
    rw [exp_at, deep_apply, scaled x b l f hx, max_row x b l f hx, ← EReal.coe_sub, Ideal.exp_coe, sub_mul]
  unfold k0_pay4
  dsimp only
  rw [log_at, keep_apply, deep_sum, hs, Ideal.log_coe, if_neg (not_le.mpr hpos)]

/-- The reference's log-sum-exp of a row. -/
theorem lse_row (hpos : 0 < expSum f (hiR f)) :
    k0_pay5 (F := Ideal) x (ValueIdx.ix3 b l 0) = ((hiR f * (5 / 4) + Real.log (expSum f (hiR f)) : ℝ) : EReal) := by
  unfold k0_pay5
  rw [addf_apply, max_row x b l f hx, log_row x b l f hx hpos, ← EReal.coe_add]

variable (hf : ∀ k, |f k| < 2 ^ 128)

include hf

/-- The exponent of the reference's scale. -/
theorem exponent_row : k0_pay6 (F := Ideal) x (ValueIdx.ix3 b l 0) = (((flog (spread f * q) + 1 : ℤ) : ℝ) : EReal) := by
  obtain ⟨hpos, hl, hu⟩ := spread_facts f hf
  obtain ⟨h1, -⟩ := q_spread _ hl hu
  have hq : 0 < spread f * q := lt_of_lt_of_le (by positivity) h1
  have h2 : Real.log 2 ≠ 0 := (Real.log_pos (by norm_num)).ne'
  unfold k0_pay6
  dsimp only
  rw [exponent_at, lse_row x b l f hx hpos, min_row x b l f hx, lit_q, lit_one, ← EReal.coe_sub, ← EReal.coe_mul, Ideal.log_coe,
    show hiR f * (5 / 4) + Real.log (expSum f (hiR f)) - loR f * (5 / 4) = spread f from rfl, if_neg (not_le.mpr hq),
    IdealRules.named_const.ideal_named_scalar _ _ _ ((Real.log 2 : ℝ) : EReal) rfl, Ideal.div_coe h2, ← EReal.coe_mul,
    mul_one_div, Ideal.liftRound_coe, ← EReal.coe_add]
  unfold flog
  push_cast
  rfl

/-- The reference's scale of a row. -/
theorem scale_row : k0_pay1 (F := Ideal) (k0_pay9 x) (ValueIdx.ix2 b l) = (((2 : ℝ) ^ (flog (spread f * q) + 1) : ℝ) : EReal) := by
  unfold k0_pay1 k0_pay9
  dsimp only
  rw [drop_apply, exp2_at, exponent_row x b l f hx hf, exp2_int]

/-- The reference's first result for a row. -/
theorem sum_row : k0_pay7 (F := Ideal) x (ValueIdx.ix2 b l) = ((Real.log (expSum f (hiR f)) : ℝ) : EReal) := by
  unfold k0_pay7
  rw [drop_apply, log_row x b l f hx (spread_facts f hf).1]

/-- The reference's code of one entry. -/
theorem code_row (R : Fin 256) (hb : b = ⟨R.val / 128, by omega⟩) (hl : l = ⟨R.val % 128, Nat.mod_lt _ (by omega)⟩) (k : Fin 256000) :
    k0_pay8 (F := Ideal) x (ValueIdx.ix2 R k) = codeR f k := by
  obtain ⟨hpos, -, -⟩ := spread_facts f hf
  unfold k0_pay8
  refine (flat_apply _ R k).trans ?_
  rw [← hb, ← hl, code_at, deep_apply, deep_apply, inverse_at, scaled x b l f hx, lse_row x b l f hx hpos,
    exponent_row x b l f hx hf, lit_zero, zero_sub, ← EReal.coe_neg, ← Int.cast_neg, exp2_int, ← EReal.coe_sub, ← EReal.coe_mul]
  rfl

end Cert.ReferenceIdeal.Rows
-- ==== Proof.Final.lean ====
module

public import proofs.«01_k».proof.Defs
public import proofs.«01_k».proof.Proof.Arrays
public import proofs.«01_k».proof.Proof.Rows
public import proofs.«01_k».proof.Proof.RefRows
public import Idealize.ShloMosaic.Lib.ReduceAll
public import proofs.«01_k».proof.Proof.Gen.KernelIdeal.Value
public import proofs.«01_k».proof.Proof.Gen.ReferenceIdeal.Value

@[expose] public section

set_option maxRecDepth 16384

noncomputable section

/-! The kernel's three arrays are the reference's, on every finite argument. -/

open Idealize.ShloMosaic Idealize.ShloMosaic.TcCoe Idealize.SL.Sem Idealize.ShloMosaic.ValueIdx

namespace Cert.Final

open Cert.RowMath

/-- The side conditions of the precondition. -/
theorem finite_facts : Cert.Pre_finite.Facts where
  bitsLt_bf16_f32 := by decide
  bcast_S_S2x128x256000 := by decide
  reducesTo_S2x128x256000_S_d0_1_2 := by decide
  h_S_ := by decide

attribute [local instance] finite_facts

instance : Subsingleton Cert.Pre_finite.S_.Idx := ⟨fun a b => funext fun k => k.elim0⟩

/-- A value whose distance from zero is at most a real number is a real number, no farther from zero. -/
theorem real_of_abs_le (v : EReal) (B : ℝ) (h : max v (-v) ≤ (B : EReal)) : v = ((v.toReal : ℝ) : EReal) ∧ |v.toReal| ≤ B := by
  obtain ⟨h1, h2⟩ := max_le_iff.mp h
  have ht : v ≠ ⊤ := fun e => by rw [e] at h1; exact absurd h1 (not_le.mpr (EReal.coe_lt_top B))
  have hb : v ≠ ⊥ := fun e => by rw [e, EReal.neg_bot] at h2; exact absurd h2 (not_le.mpr (EReal.coe_lt_top B))
  have e : v = ((v.toReal : ℝ) : EReal) := (EReal.coe_toReal ht hb).symm
  refine ⟨e, abs_le.mpr ⟨?_, ?_⟩⟩
  · rw [e, ← EReal.coe_neg] at h2
    have := EReal.coe_le_coe_iff.mp h2
    linarith
  · rw [e] at h1
    exact EReal.coe_le_coe_iff.mp h1

/-- The comparison the precondition makes of one entry. -/
theorem compare_at (x : FVec Ideal Cert.Pre_finite.S2x128x256000 .bf16) (i : Cert.Pre_finite.S2x128x256000.Idx)
    (h : FTy.bits .bf16 < FTy.bits .f32)
    (hb : Cert.Pre_finite.S_.BroadcastsInDim Cert.Pre_finite.S2x128x256000 (![] : Fin 0 → Fin Cert.Pre_finite.S2x128x256000.rank)) :
    cmpf .ole (Host.absf (extf .f32 x h))
      (broadcastInDim Cert.Pre_finite.S2x128x256000 ![] hb (constant (F := Ideal) Cert.Pre_finite.S_ .f32 0x7F7F0000#32)) i
      = BitVec.ofBool (decide (max (x i) (-(x i)) ≤ Ideal.ofBits .f32 0x7F7F0000#32)) := rfl

/-- Every entry of a finite argument is a real number below `2 ^ 128`. -/
theorem finite_entry (x : FVec Ideal Cert.Pre_finite.S2x128x256000 .bf16) (hx : Cert.Pre_finite.fn (F := Ideal) x = fun _ => 1#1)
    (i : Cert.Pre_finite.S2x128x256000.Idx) : x i = (((x i).toReal : ℝ) : EReal) ∧ |(x i).toReal| < 2 ^ 128 := by
  have h0 := congrFun hx (fun k => k.elim0)
  unfold Cert.Pre_finite.fn at h0
  dsimp only at h0
  have h1 := Host.reduce_andi_all _ _ _ _ _ h0 i
  rw [compare_at] at h1
  obtain ⟨B, hB, hlt⟩ := lit_big
  rw [hB] at h1
  have h2 : max (x i) (-(x i)) ≤ (B : EReal) := by
    by_contra hc
    rw [decide_eq_false hc] at h1
    exact absurd h1 (by decide)
  obtain ⟨e, hle⟩ := real_of_abs_le _ _ h2
  exact ⟨e, lt_of_le_of_lt hle hlt⟩

section

open Cert.KernelIdeal Cert.KernelIdeal.Gen Cert.KernelIdeal.Blocks

variable (m : (ℓ : Loc nD τ sig) → Buf (Elt Ideal) ℓ) (c : Dev nD)
  (hm : Cert.Pre_finite.fn (F := Ideal) (m ((c.tc : Thread nD τ).loc main_arg0)) = fun _ => 1#1)

/-- A row of the argument, as real numbers. -/
def line (b : Fin 2) (l : Fin 128) (k : Fin 256000) : ℝ :=
  ((m ((c.tc : Thread nD τ).loc main_arg0) : FVec Ideal Cert.Pre_finite.S2x128x256000 .bf16) (ValueIdx.ix3 b l k)).toReal

include hm

/-- The entries of a finite argument are real. -/
theorem line_eq (b : Fin 2) (l : Fin 128) (k : Fin 256000) :
    (m ((c.tc : Thread nD τ).loc main_arg0) : FVec Ideal Cert.Pre_finite.S2x128x256000 .bf16) (ValueIdx.ix3 b l k)
      = ((line m c b l k : ℝ) : EReal) := (finite_entry _ hm _).1

/-- The entries of a finite argument are below `2 ^ 128`. -/
theorem line_lt (b : Fin 2) (l : Fin 128) (k : Fin 256000) : |line m c b l k| < 2 ^ 128 := (finite_entry _ hm _).2

/-- A row of a block is a row of the argument. -/
theorem blk_line (t : Fin cfg0.N) (r : Fin 32) (b : Fin 2) (l : Fin 128) (h : 32 * t.val + r.val = 128 * b.val + l.val) (cl : Fin 256000) :
    blk m c t (ValueIdx.ix2 r cl) = ((line m c b l cl : ℝ) : EReal) :=
  (blk_apply m c t r cl b l h).trans (line_eq m c hm b l cl)

/-- The first result. -/
theorem result1 : (dats m 0 c).arrAt 1 cfg0.N = Cert.ReferenceIdeal.Gen.k0_pay7 (F := Ideal) (m ((c.tc : Thread nD τ).loc main_arg0)) := by
  refine (final1 m c).trans (funext fun (j : S2x128.Idx) => ?_)
  obtain ⟨b, l, rfl⟩ : ∃ b l, j = ValueIdx.ix2 b l := ⟨j 0, j 1, ValueIdx.eq_ix2 j⟩
  have hb := b.isLt
  have hl := l.isLt
  refine (lse_acc m c b l last.val last.isLt).trans (Eq.trans ?_
    (Cert.ReferenceIdeal.Rows.sum_row _ b l (line m c b l) (line_eq m c hm b l) (line_lt m c hm b l)).symm)
  rw [dif_pos (show (128 * b.val + l.val) / 32 ≤ 7 by omega)]
  exact log_row _ _ (line m c b l) (blk_line m c hm _ _ b l (by show 32 * ((128 * b.val + l.val) / 32) + l.val % 32 = _; omega))
    (spread_facts _ (line_lt m c hm b l)).1

/-- The third result. -/
theorem result3 : (dats m 0 c).arrAt 3 cfg0.N
    = Cert.ReferenceIdeal.Gen.k0_pay1 (F := Ideal) (Cert.ReferenceIdeal.Gen.k0_pay9 (m ((c.tc : Thread nD τ).loc main_arg0))) := by
  refine (final3 m c).trans (funext fun (j : S2x128.Idx) => ?_)
  obtain ⟨b, l, rfl⟩ : ∃ b l, j = ValueIdx.ix2 b l := ⟨j 0, j 1, ValueIdx.eq_ix2 j⟩
  have hb := b.isLt
  have hl := l.isLt
  refine (scale_acc m c b l last.val last.isLt).trans (Eq.trans ?_
    (Cert.ReferenceIdeal.Rows.scale_row _ b l (line m c b l) (line_eq m c hm b l) (line_lt m c hm b l)).symm)
  rw [dif_pos (show (128 * b.val + l.val) / 32 ≤ 7 by omega)]
  exact scale_row _ _ (line m c b l) (blk_line m c hm _ _ b l (by show 32 * ((128 * b.val + l.val) / 32) + l.val % 32 = _; omega))
    (line_lt m c hm b l)

/-- The second result. -/
theorem result2 : (dats m 0 c).arrAt 2 cfg0.N = Cert.ReferenceIdeal.Gen.k0_pay8 (F := Ideal) (m ((c.tc : Thread nD τ).loc main_arg0)) := by
  refine (final2 m c).trans (funext fun (j : S256x256000.Idx) => ?_)
  obtain ⟨R, k, rfl⟩ : ∃ R k, j = ValueIdx.ix2 R k := ⟨j 0, j 1, ValueIdx.eq_ix2 j⟩
  have hR : R.val < 256 := R.isLt
  refine Eq.trans ?_ (Cert.ReferenceIdeal.Rows.code_row _ ⟨R.val / 128, by omega⟩ ⟨R.val % 128, Nat.mod_lt _ (by omega)⟩
    (line m c ⟨R.val / 128, by omega⟩ ⟨R.val % 128, Nat.mod_lt _ (by omega)⟩)
    (line_eq m c hm _ _) (line_lt m c hm _ _) R rfl rfl k).symm
  exact code_row _ _ (line m c ⟨R.val / 128, by omega⟩ ⟨R.val % 128, Nat.mod_lt _ (by omega)⟩)
    (blk_line m c hm _ _ _ _ (by show 32 * (R.val / 32) + R.val % 32 = 128 * (R.val / 128) + R.val % 128; omega))
    (line_lt m c hm _ _) k

end

/-- From memories with one and the same finite argument, the kernel and the reference end with the same three results. -/
theorem algebraic : Cert.algebraic_KernelIdeal_ReferenceIdeal_pre_finite (hPre_finite := finite_facts) := by
  intro m g m' g' hm h
  refine ⟨fun c => (Cert.KernelIdeal.Gen.dats m 0 c).arrAt 1 Cert.KernelIdeal.cfg0.N,
    fun c => (Cert.KernelIdeal.Gen.dats m 0 c).arrAt 2 Cert.KernelIdeal.cfg0.N,
    fun c => (Cert.KernelIdeal.Gen.dats m 0 c).arrAt 3 Cert.KernelIdeal.cfg0.N,
    Cert.KernelIdeal.Value.run_blocks m g, ?_⟩
  refine (θ_run Cert.ReferenceIdeal.defs _ _).mono (fun r hr c => ?_) (Cert.ReferenceIdeal.Value.run m' g')
  obtain ⟨h1, h2, h3, h4⟩ := hr c
  refine ⟨h1.trans ?_, h2.trans ?_, h3.trans ?_, h4⟩
  · exact (congrArg (Cert.ReferenceIdeal.Gen.k0_pay7 (F := Ideal)) (h c)).trans (result1 m c (hm c)).symm
  · exact (congrArg (Cert.ReferenceIdeal.Gen.k0_pay8 (F := Ideal)) (h c)).trans (result2 m c (hm c)).symm
  · exact (congrArg (fun a => Cert.ReferenceIdeal.Gen.k0_pay1 (F := Ideal) (Cert.ReferenceIdeal.Gen.k0_pay9 a)) (h c)).trans
      (result3 m c (hm c)).symm

end Cert.Final
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Final

@[expose] public section

noncomputable section

namespace Cert.Proof

open Idealize.ShloMosaic Idealize.SL.Sem Cert.Kernel

/-- The programs' stated side conditions hold; each program leaves its argument unchanged and every semaphore at
    zero; the named constant of the ideal kernel is the constant the kernel was written with; and on a finite
    argument the kernel's three results are the reference's. -/
theorem claim : Cert.Claim :=
  ⟨Cert.Kernel.Gen.facts, Cert.KernelIdeal.Gen.facts, Cert.ReferenceIdeal.Gen.facts, Cert.Final.finite_facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "exp2_scale" .f32 0x3FE6D4CA#32
      (((5 / 4) * (Real.log 2)⁻¹ : ℝ) : EReal) rfl,
    Cert.Final.algebraic⟩

end Cert.Proof

end
